-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2sq" .f32 0x3EF5FDF0#32 (((Real.log 2) * (Real.log 2) : ℝ) : EReal)

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S4x2x128x128 : Shape := ⟨4, ![4, 2, 128, 128]⟩
abbrev S4x19x128x128 : Shape := ⟨4, ![4, 19, 128, 128]⟩
abbrev S65536x190 : Shape := ⟨2, ![65536, 190]⟩
abbrev S65536 : Shape := ⟨1, ![65536]⟩
abbrev S4x128x128 : Shape := ⟨3, ![4, 128, 128]⟩
abbrev S4x512x512 : Shape := ⟨3, ![4, 512, 512]⟩
abbrev S_ : Shape := ⟨0, ![]⟩

class Facts : Prop where
  bcast_S_S4x19x128x128 : S_.BroadcastsInDim S4x19x128x128 (![] : Fin 0 → Fin S4x19x128x128.rank)
  reducesTo_S4x19x128x128_S_d0_1_2_3 : S4x19x128x128.ReducesTo [0, 1, 2, 3] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_

variable [Facts]

def fn {F : FTy → Type} [FloatOps F] (main_arg0 : FVec F S4x2x128x128 .f32) (main_arg1 : FVec F S4x19x128x128 .f32) (main_arg2 : FVec F S65536x190 .f32) (main_arg3 : IVec S65536 32) (main_arg4 : FVec F S4x128x128 .f32) (main_arg5 : IVec S4x512x512 32) (main_arg6 : IVec S4x512x512 1) (main_arg7 : IVec S4x512x512 32) : IVec S_ 1 :=
  let main_v0 : FVec F S4x19x128x128 .f32 := Host.absf main_arg1
  let main_cst : FVec F S_ .f32 := constant S_ .f32 0x7F800000#32
  let main_v1 : FVec F S4x19x128x128 .f32 := broadcastInDim S4x19x128x128 ![] bcast_S_S4x19x128x128 main_cst
  let main_v2 : IVec S4x19x128x128 1 := cmpf .olt main_v0 main_v1
  let main_c : IVec S_ 1 := constantI S_ 1 1#1
  let main_v3 : IVec S_ 1 := (fun x v => Host.reduce IntOp.andi x v reducesTo_S4x19x128x128_S_d0_1_2_3 h_S_) main_v2 main_c
  let main_c_0 : IVec S_ 32 := constantI S_ 32 0#32
  let main_v4 : IVec S4x512x512 32 := broadcastInDim S4x512x512 ![] bcast_S_S4x512x512 main_c_0
  let main_v5 : IVec S4x512x512 1 := cmpi .sge main_arg7 main_v4
  let main_c_1 : IVec S_ 32 := constantI S_ 32 19#32
  let main_v6 : IVec S4x512x512 32 := broadcastInDim S4x512x512 ![] bcast_S_S4x512x512 main_c_1
  let main_v7 : IVec S4x512x512 1 := cmpi .slt main_arg7 main_v6
  let main_v8 : IVec S4x512x512 1 := andi main_v5 main_v7
  let main_c_2 : IVec S_ 1 := constantI S_ 1 1#1
  let main_v9 : IVec S_ 1 := (fun x v => Host.reduce IntOp.andi x v reducesTo_S4x512x512_S_d0_1_2 h_S_) main_v8 main_c_2
  let main_v10 : IVec S_ 1 := andi main_v3 main_v9
  main_v10
-- ==== Kernel.lean ====
abbrev S4x2x128x128 : Shape := ⟨4, ![4, 2, 128, 128]⟩
abbrev S4x19x128x128 : Shape := ⟨4, ![4, 19, 128, 128]⟩
abbrev S65536x190 : Shape := ⟨2, ![65536, 190]⟩
abbrev S65536 : Shape := ⟨1, ![65536]⟩
abbrev S4x128x128 : Shape := ⟨3, ![4, 128, 128]⟩
abbrev S4x512x512 : Shape := ⟨3, ![4, 512, 512]⟩
abbrev S512x24 : Shape := ⟨2, ![512, 24]⟩
abbrev S128x512 : Shape := ⟨2, ![128, 512]⟩
abbrev S1x1 : Shape := ⟨2, ![1, 1]⟩
abbrev S1x19x128x128 : Shape := ⟨4, ![1, 19, 128, 128]⟩
abbrev S1x128x128 : Shape := ⟨3, ![1, 128, 128]⟩
abbrev S1x512x512 : Shape := ⟨3, ![1, 512, 512]⟩
abbrev S1x1x128x128 : Shape := ⟨4, ![1, 1, 128, 128]⟩
abbrev S128x128 : Shape := ⟨2, ![128, 128]⟩
abbrev S32x24 : Shape := ⟨2, ![32, 24]⟩
abbrev S1x32x512 : Shape := ⟨3, ![1, 32, 512]⟩
abbrev S32x512 : Shape := ⟨2, ![32, 512]⟩
abbrev S24x512 : Shape := ⟨2, ![24, 512]⟩
abbrev S1 : Shape := ⟨1, ![1]⟩
abbrev S1x1x1 : Shape := ⟨3, ![1, 1, 1]⟩
abbrev S_ : Shape := ⟨0, ![]⟩

abbrev nBuf : Space → Nat
  | .hbm => 18
  | .vmem => 12
  | .smem => 0
  | _ => 0

abbrev bufTy : (tb : Table) → Fin (tcTables nBuf tb) → BufTy
  | .hbm, ⟨0, _⟩ => ⟨S4x2x128x128, .f32⟩
  | .hbm, ⟨1, _⟩ => ⟨S4x19x128x128, .f32⟩
  | .hbm, ⟨2, _⟩ => ⟨S65536x190, .f32⟩
  | .hbm, ⟨3, _⟩ => ⟨S65536, .i32⟩
  | .hbm, ⟨4, _⟩ => ⟨S4x128x128, .f32⟩
  | .hbm, ⟨5, _⟩ => ⟨S4x512x512, .i32⟩
  | .hbm, ⟨6, _⟩ => ⟨S4x512x512, .i1⟩
  | .hbm, ⟨7, _⟩ => ⟨S4x512x512, .i32⟩
  | .hbm, ⟨8, _⟩ => ⟨S512x24, .f32⟩
  | .hbm, ⟨9, _⟩ => ⟨S128x512, .f32⟩
  | .hbm, ⟨10, _⟩ => ⟨S4x512x512, .i32⟩
  | .hbm, ⟨11, _⟩ => ⟨S1x1, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1x19x128x128, .f32⟩
  | .local _ .vmem, ⟨1, _⟩ => ⟨S1x19x128x128, .f32⟩
  | .local _ .vmem, ⟨2, _⟩ => ⟨S1x128x128, .f32⟩
  | .local _ .vmem, ⟨3, _⟩ => ⟨S1x128x128, .f32⟩
  | .local _ .vmem, ⟨4, _⟩ => ⟨S1x512x512, .i32⟩
  | .local _ .vmem, ⟨5, _⟩ => ⟨S1x512x512, .i32⟩
  | .local _ .vmem, ⟨6, _⟩ => ⟨S1x512x512, .i32⟩
  | .local _ .vmem, ⟨7, _⟩ => ⟨S1x512x512, .i32⟩
  | .local _ .vmem, ⟨8, _⟩ => ⟨S512x24, .f32⟩
  | .local _ .vmem, ⟨9, _⟩ => ⟨S128x512, .f32⟩
  | .local _ .vmem, ⟨10, _⟩ => ⟨S1x1, .f32⟩
  | .local _ .vmem, ⟨11, _⟩ => ⟨S1x1, .f32⟩
  | _, _ => ⟨S4x2x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32_1247 : BitVec 32 := 0#32
  let v3278 : BitVec 1 := Scalar.cmpi .eq arg0 c0_i32_1247
  let v3279 : BitVec 32 := Scalar.extui v3278
  let c0_i32_1248 : BitVec 32 := 0#32
  let v3280 : BitVec 1 := Scalar.cmpi .ne v3279 c0_i32_1248
  v3280

def k0_cond2 (i : grid0.Coords) : BitVec 1 :=
  let arg0 : BitVec 32 := BitVec.ofNat 32 (i 0).val
  let c0_i32_1249 : BitVec 32 := 0#32
  let v3281 : BitVec 1 := Scalar.cmpi .ne arg0 c0_i32_1249
  let v3282 : BitVec 32 := Scalar.extui v3281
  let c0_i32_1250 : BitVec 32 := 0#32
  let v3283 : BitVec 1 := Scalar.cmpi .ne v3282 c0_i32_1250
  v3283

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x19x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "ln2sq" => some (((Real.log 2) * (Real.log 2) : ℝ) : EReal)
  | "log2e" => some (((Real.log 2)⁻¹ : ℝ) : EReal)
  | _ => none
-- ==== ReferenceIdeal.lean ====
abbrev S4x2x128x128 : Shape := ⟨4, ![4, 2, 128, 128]⟩
abbrev S4x19x128x128 : Shape := ⟨4, ![4, 19, 128, 128]⟩
abbrev S65536x190 : Shape := ⟨2, ![65536, 190]⟩
abbrev S65536 : Shape := ⟨1, ![65536]⟩
abbrev S4x128x128 : Shape := ⟨3, ![4, 128, 128]⟩
abbrev S4x512x512 : Shape := ⟨3, ![4, 512, 512]⟩
abbrev S512 : Shape := ⟨1, ![512]⟩
abbrev S1x1x512x1 : Shape := ⟨4, ![1, 1, 512, 1]⟩
abbrev S_ : Shape := ⟨0, ![]⟩
abbrev S512x1 : Shape := ⟨2, ![512, 1]⟩
abbrev S4x19x512x128 : Shape := ⟨4, ![4, 19, 512, 128]⟩
abbrev S4x19x512x512 : Shape := ⟨4, ![4, 19, 512, 512]⟩
abbrev S1x1x1x512 : Shape := ⟨4, ![1, 1, 1, 512]⟩
abbrev S4x1x128x128 : Shape := ⟨4, ![4, 1, 128, 128]⟩
abbrev S4x1x512x128 : Shape := ⟨4, ![4, 1, 512, 128]⟩
abbrev S4x1x512x512 : Shape := ⟨4, ![4, 1, 512, 512]⟩
abbrev S4x1x512x512x1 : Shape := ⟨5, ![4, 1, 512, 512, 1]⟩
abbrev S1 : Shape := ⟨1, ![1]⟩
abbrev S1x1x1x1x1 : Shape := ⟨5, ![1, 1, 1, 1, 1]⟩

abbrev nBuf : Space → Nat
  | .hbm => 215
  | .vmem => 0
  | .smem => 0
  | _ => 0

abbrev hbmTy0_0 (i : Nat) : BufTy := match i % 128 with
  | 0 => ⟨S4x2x128x128, .f32⟩
  | 1 => ⟨S4x19x128x128, .f32⟩
  | 2 => ⟨S65536x190, .f32⟩
  | 3 => ⟨S65536, .i32⟩
  | 4 => ⟨S4x128x128, .f32⟩
  | 5 => ⟨S4x512x512, .i32⟩
  | 6 => ⟨S4x512x512, .i1⟩
  | 7 => ⟨S4x512x512, .i32⟩
  | 8 => ⟨S512, .i32⟩
  | 9 => ⟨S512, .i1⟩
  | 10 => ⟨S512, .i32⟩
  | 11 => ⟨S512, .i1⟩
  | 12 => ⟨S512, .i32⟩
  | 13 => ⟨S512, .i1⟩
  | 14 => ⟨S512, .f32⟩
  | 15 => ⟨S512, .i32⟩
  | 16 => ⟨S512, .i1⟩
  | 17 => ⟨S512, .f32⟩
  | 18 => ⟨S512, .i1⟩
  | 19 => ⟨S512, .f32⟩
  | 20 => ⟨S512, .i1⟩
  | 21 => ⟨S512, .f32⟩
  | 22 => ⟨S1x1x512x1, .f32⟩
  | 23 => ⟨S512, .f32⟩
  | 24 => ⟨S1x1x512x1, .f32⟩
  | 25 => ⟨S512, .i32⟩
  | 26 => ⟨S512, .i1⟩
  | 27 => ⟨S512, .i32⟩
  | 28 => ⟨S512, .i1⟩
  | 29 => ⟨S512, .i32⟩
  | 30 => ⟨S512, .i1⟩
  | 31 => ⟨S512, .f32⟩
  | 32 => ⟨S512, .i32⟩
  | 33 => ⟨S512, .i1⟩
  | 34 => ⟨S512, .f32⟩
  | 35 => ⟨S512, .i1⟩
  | 36 => ⟨S512, .f32⟩
  | 37 => ⟨S512, .i1⟩
  | 38 => ⟨S512, .f32⟩
  | 39 => ⟨S1x1x512x1, .f32⟩
  | 40 => ⟨S512, .f32⟩
  | 41 => ⟨S1x1x512x1, .f32⟩
  | 42 => ⟨S_, .i32⟩
  | 43 => ⟨S512, .i32⟩
  | 44 => ⟨S512, .i32⟩
  | 45 => ⟨S512, .i32⟩
  | 46 => ⟨S512x1, .i32⟩
  | 47 => ⟨S4x19x512x128, .f32⟩
  | 48 => ⟨S_, .i32⟩
  | 49 => ⟨S512, .i32⟩
  | 50 => ⟨S512, .i32⟩
  | 51 => ⟨S512, .i32⟩
  | 52 => ⟨S512x1, .i32⟩
  | 53 => ⟨S4x19x512x128, .f32⟩
  | 54 => ⟨S_, .i32⟩
  | 55 => ⟨S512, .i32⟩
  | 56 => ⟨S512, .i32⟩
  | 57 => ⟨S512, .i32⟩
  | 58 => ⟨S512x1, .i32⟩
  | 59 => ⟨S4x19x512x512, .f32⟩
  | 60 => ⟨S1x1x1x512, .f32⟩
  | 61 => ⟨S4x19x512x512, .f32⟩
  | 62 => ⟨S4x19x512x512, .f32⟩
  | 63 => ⟨S_, .i32⟩
  | 64 => ⟨S512, .i32⟩
  | 65 => ⟨S512, .i32⟩
  | 66 => ⟨S512, .i32⟩
  | 67 => ⟨S512x1, .i32⟩
  | 68 => ⟨S4x19x512x512, .f32⟩
  | 69 => ⟨S1x1x1x512, .f32⟩
  | 70 => ⟨S4x19x512x512, .f32⟩
  | 71 => ⟨S4x19x512x512, .f32⟩
  | 72 => ⟨S4x19x512x512, .f32⟩
  | 73 => ⟨S_, .i32⟩
  | 74 => ⟨S512, .i32⟩
  | 75 => ⟨S512, .i32⟩
  | 76 => ⟨S512, .i32⟩
  | 77 => ⟨S512x1, .i32⟩
  | 78 => ⟨S4x19x512x512, .f32⟩
  | 79 => ⟨S1x1x1x512, .f32⟩
  | 80 => ⟨S4x19x512x512, .f32⟩
  | 81 => ⟨S4x19x512x512, .f32⟩
  | 82 => ⟨S_, .i32⟩
  | 83 => ⟨S512, .i32⟩
  | 84 => ⟨S512, .i32⟩
  | 85 => ⟨S512, .i32⟩
  | 86 => ⟨S512x1, .i32⟩
  | 87 => ⟨S4x19x512x512, .f32⟩
  | 88 => ⟨S1x1x1x512, .f32⟩
  | 89 => ⟨S4x19x512x512, .f32⟩
  | 90 => ⟨S4x19x512x512, .f32⟩
  | 91 => ⟨S4x19x512x512, .f32⟩
  | 92 => ⟨S4x19x512x512, .f32⟩
  | 93 => ⟨S4x19x512x512, .f32⟩
  | 94 => ⟨S4x19x512x512, .f32⟩
  | 95 => ⟨S4x19x512x512, .f32⟩
  | 96 => ⟨S4x19x512x512, .f32⟩
  | 97 => ⟨S_, .i32⟩
  | 98 => ⟨S_, .i32⟩
  | 99 => ⟨S4x512x512, .i32⟩
  | 100 => ⟨S4x512x512, .i32⟩
  | 101 => ⟨S4x1x128x128, .f32⟩
  | 102 => ⟨S_, .i32⟩
  | 103 => ⟨S512, .i32⟩
  | 104 => ⟨S512, .i32⟩
  | 105 => ⟨S512, .i32⟩
  | 106 => ⟨S512x1, .i32⟩
  | 107 => ⟨S4x1x512x128, .f32⟩
  | 108 => ⟨S_, .i32⟩
  | 109 => ⟨S512, .i32⟩
  | 110 => ⟨S512, .i32⟩
  | 111 => ⟨S512, .i32⟩
  | 112 => ⟨S512x1, .i32⟩
  | 113 => ⟨S4x1x512x128, .f32⟩
  | 114 => ⟨S_, .i32⟩
  | 115 => ⟨S512, .i32⟩
  | 116 => ⟨S512, .i32⟩
  | 117 => ⟨S512, .i32⟩
  | 118 => ⟨S512x1, .i32⟩
  | 119 => ⟨S4x1x512x512, .f32⟩
  | 120 => ⟨S1x1x1x512, .f32⟩
  | 121 => ⟨S4x1x512x512, .f32⟩
  | 122 => ⟨S4x1x512x512, .f32⟩
  | 123 => ⟨S_, .i32⟩
  | 124 => ⟨S512, .i32⟩
  | 125 => ⟨S512, .i32⟩
  | 126 => ⟨S512, .i32⟩
  | 127 => ⟨S512x1, .i32⟩
  | _ => ⟨S4x2x128x128, .f32⟩

abbrev hbmTy0_1 (i : Nat) : BufTy := match i % 128 with
  | 0 => ⟨S4x1x512x512, .f32⟩
  | 1 => ⟨S1x1x1x512, .f32⟩
  | 2 => ⟨S4x1x512x512, .f32⟩
  | 3 => ⟨S4x1x512x512, .f32⟩
  | 4 => ⟨S4x1x512x512, .f32⟩
  | 5 => ⟨S_, .i32⟩
  | 6 => ⟨S512, .i32⟩
  | 7 => ⟨S512, .i32⟩
  | 8 => ⟨S512, .i32⟩
  | 9 => ⟨S512x1, .i32⟩
  | 10 => ⟨S4x1x512x512, .f32⟩
  | 11 => ⟨S1x1x1x512, .f32⟩
  | 12 => ⟨S4x1x512x512, .f32⟩
  | 13 => ⟨S4x1x512x512, .f32⟩
  | 14 => ⟨S_, .i32⟩
  | 15 => ⟨S512, .i32⟩
  | 16 => ⟨S512, .i32⟩
  | 17 => ⟨S512, .i32⟩
  | 18 => ⟨S512x1, .i32⟩
  | 19 => ⟨S4x1x512x512, .f32⟩
  | 20 => ⟨S1x1x1x512, .f32⟩
  | 21 => ⟨S4x1x512x512, .f32⟩
  | 22 => ⟨S4x1x512x512, .f32⟩
  | 23 => ⟨S4x1x512x512, .f32⟩
  | 24 => ⟨S4x1x512x512, .f32⟩
  | 25 => ⟨S4x1x512x512, .f32⟩
  | 26 => ⟨S4x1x512x512, .f32⟩
  | 27 => ⟨S4x1x512x512, .f32⟩
  | 28 => ⟨S4x1x512x512, .f32⟩
  | 29 => ⟨S4x512x512, .f32⟩
  | 30 => ⟨S_, .f32⟩
  | 31 => ⟨S4x512x512, .f32⟩
  | 32 => ⟨S_, .f32⟩
  | 33 => ⟨S4x512x512, .f32⟩
  | 34 => ⟨S4x512x512, .f32⟩
  | 35 => ⟨S4x1x512x512, .f32⟩
  | 36 => ⟨S4x19x512x512, .f32⟩
  | 37 => ⟨S4x19x512x512, .f32⟩
  | 38 => ⟨S4x19x512x512, .f32⟩
  | 39 => ⟨S_, .f32⟩
  | 40 => ⟨S4x512x512, .f32⟩
  | 41 => ⟨S4x1x512x512, .f32⟩
  | 42 => ⟨S4x1x512x512, .f32⟩
  | 43 => ⟨S4x19x512x512, .f32⟩
  | 44 => ⟨S4x19x512x512, .f32⟩
  | 45 => ⟨S_, .i32⟩
  | 46 => ⟨S4x512x512, .i32⟩
  | 47 => ⟨S4x512x512, .i1⟩
  | 48 => ⟨S_, .i32⟩
  | 49 => ⟨S_, .i32⟩
  | 50 => ⟨S4x512x512, .i32⟩
  | 51 => ⟨S4x512x512, .i32⟩
  | 52 => ⟨S4x1x512x512, .i32⟩
  | 53 => ⟨S_, .i32⟩
  | 54 => ⟨S4x1x512x512, .i32⟩
  | 55 => ⟨S4x1x512x512, .i1⟩
  | 56 => ⟨S_, .i32⟩
  | 57 => ⟨S4x1x512x512, .i32⟩
  | 58 => ⟨S4x1x512x512, .i32⟩
  | 59 => ⟨S4x1x512x512, .i32⟩
  | 60 => ⟨S4x1x512x512x1, .i32⟩
  | 61 => ⟨S1, .i32⟩
  | 62 => ⟨S_, .i32⟩
  | 63 => ⟨S4x1x512x512x1, .i32⟩
  | 64 => ⟨S4x1x512x512x1, .i1⟩
  | 65 => ⟨S1x1x1x1x1, .i32⟩
  | 66 => ⟨S4x1x512x512x1, .i32⟩
  | 67 => ⟨S4x1x512x512x1, .i1⟩
  | 68 => ⟨S4x1x512x512x1, .i1⟩
  | 69 => ⟨S_, .i1⟩
  | 70 => ⟨S4x1x512x512, .i1⟩
  | 71 => ⟨S4x1x512x512, .f32⟩
  | 72 => ⟨S_, .f32⟩
  | 73 => ⟨S4x1x512x512, .f32⟩
  | 74 => ⟨S4x1x512x512, .f32⟩
  | 75 => ⟨S4x512x512, .f32⟩
  | 76 => ⟨S4x512x512, .f32⟩
  | 77 => ⟨S4x512x512, .f32⟩
  | 78 => ⟨S4x512x512, .f32⟩
  | 79 => ⟨S4x512x512, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | _ => ⟨S4x2x128x128, .f32⟩

abbrev hbmTy (i : Nat) : BufTy := match i / 128 with
  | 0 => hbmTy0_0 i
  | 1 => hbmTy0_1 i
  | _ => ⟨S4x2x128x128, .f32⟩

abbrev bufTy : (tb : Table) → Fin (tcTables nBuf tb) → BufTy
  | .hbm, ⟨i, _⟩ => hbmTy i
  | _, _ => ⟨S4x2x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_c_2 : Ref sig .tc := ⟨.hbm, 11, rfl⟩
abbrev main_c_3 : Ref sig .tc := ⟨.hbm, 12, rfl⟩
abbrev main_c_4 : Ref sig .tc := ⟨.hbm, 13, rfl⟩
abbrev main_cst : Ref sig .tc := ⟨.hbm, 14, rfl⟩
abbrev main_c_5 : Ref sig .tc := ⟨.hbm, 15, rfl⟩
abbrev main_c_6 : Ref sig .tc := ⟨.hbm, 16, rfl⟩
abbrev main_cst_7 : Ref sig .tc := ⟨.hbm, 17, rfl⟩
abbrev main_c_8 : Ref sig .tc := ⟨.hbm, 18, rfl⟩
abbrev main_cst_9 : Ref sig .tc := ⟨.hbm, 19, rfl⟩
abbrev main_c_10 : Ref sig .tc := ⟨.hbm, 20, rfl⟩
abbrev main_cst_11 : Ref sig .tc := ⟨.hbm, 21, rfl⟩
abbrev main_v0 : Ref sig .tc := ⟨.hbm, 22, rfl⟩
abbrev main_cst_12 : Ref sig .tc := ⟨.hbm, 23, rfl⟩
abbrev main_v1 : Ref sig .tc := ⟨.hbm, 24, rfl⟩
abbrev main_c_13 : Ref sig .tc := ⟨.hbm, 25, rfl⟩
abbrev main_c_14 : Ref sig .tc := ⟨.hbm, 26, rfl⟩
abbrev main_c_15 : Ref sig .tc := ⟨.hbm, 27, rfl⟩
abbrev main_c_16 : Ref sig .tc := ⟨.hbm, 28, rfl⟩
abbrev main_c_17 : Ref sig .tc := ⟨.hbm, 29, rfl⟩
abbrev main_c_18 : Ref sig .tc := ⟨.hbm, 30, rfl⟩
abbrev main_cst_19 : Ref sig .tc := ⟨.hbm, 31, rfl⟩
abbrev main_c_20 : Ref sig .tc := ⟨.hbm, 32, rfl⟩
abbrev main_c_21 : Ref sig .tc := ⟨.hbm, 33, rfl⟩
abbrev main_cst_22 : Ref sig .tc := ⟨.hbm, 34, rfl⟩
abbrev main_c_23 : Ref sig .tc := ⟨.hbm, 35, rfl⟩
abbrev main_cst_24 : Ref sig .tc := ⟨.hbm, 36, rfl⟩
abbrev main_c_25 : Ref sig .tc := ⟨.hbm, 37, rfl⟩
abbrev main_cst_26 : Ref sig .tc := ⟨.hbm, 38, rfl⟩
abbrev main_v2 : Ref sig .tc := ⟨.hbm, 39, rfl⟩
abbrev main_cst_27 : Ref sig .tc := ⟨.hbm, 40, rfl⟩
abbrev main_v3 : Ref sig .tc := ⟨.hbm, 41, rfl⟩
abbrev main_c_28 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_c_29 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_c_30 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_c_31 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_c_32 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_c_33 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_c_34 : Ref sig .tc := ⟨.hbm, 97, rfl⟩
abbrev main_call0_v0 : Ref sig .tc := ⟨.hbm, 98, rfl⟩
abbrev main_call0_v1 : Ref sig .tc := ⟨.hbm, 99, rfl⟩
abbrev main_v53 : Ref sig .tc := ⟨.hbm, 100, rfl⟩
abbrev main_v54 : Ref sig .tc := ⟨.hbm, 101, rfl⟩
abbrev main_c_35 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_c_36 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_c_37 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_c_38 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_c_39 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_c_40 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_call1_cst : Ref sig .tc := ⟨.hbm, 158, rfl⟩
abbrev main_call1_v0 : Ref sig .tc := ⟨.hbm, 159, rfl⟩
abbrev main_call1_cst_0 : Ref sig .tc := ⟨.hbm, 160, rfl⟩
abbrev main_call1_v1 : Ref sig .tc := ⟨.hbm, 161, rfl⟩
abbrev main_call1_v2 : Ref sig .tc := ⟨.hbm, 162, rfl⟩
abbrev main_call1_v3 : Ref sig .tc := ⟨.hbm, 163, rfl⟩
abbrev main_call1_v4 : Ref sig .tc := ⟨.hbm, 164, rfl⟩
abbrev main_call1_v5 : Ref sig .tc := ⟨.hbm, 165, rfl⟩
abbrev main_call1_v6 : Ref sig .tc := ⟨.hbm, 166, rfl⟩
abbrev main_call1_cst_1 : Ref sig .tc := ⟨.hbm, 167, rfl⟩
abbrev main_call1_v7 : Ref sig .tc := ⟨.hbm, 168, rfl⟩
abbrev main_call1_v8 : Ref sig .tc := ⟨.hbm, 169, rfl⟩
abbrev main_call1_v9 : Ref sig .tc := ⟨.hbm, 170, rfl⟩
abbrev main_call1_v10 : Ref sig .tc := ⟨.hbm, 171, rfl⟩
abbrev main_v105 : Ref sig .tc := ⟨.hbm, 172, rfl⟩
abbrev main_c_41 : Ref sig .tc := ⟨.hbm, 173, rfl⟩
abbrev main_v106 : Ref sig .tc := ⟨.hbm, 174, rfl⟩
abbrev main_v107 : Ref sig .tc := ⟨.hbm, 175, rfl⟩
abbrev main_c_42 : Ref sig .tc := ⟨.hbm, 176, rfl⟩
abbrev main_call2_v0 : Ref sig .tc := ⟨.hbm, 177, rfl⟩
abbrev main_call2_v1 : Ref sig .tc := ⟨.hbm, 178, rfl⟩
abbrev main_v108 : Ref sig .tc := ⟨.hbm, 179, rfl⟩
abbrev main_v109 : Ref sig .tc := ⟨.hbm, 180, rfl⟩
abbrev main_call3_c : Ref sig .tc := ⟨.hbm, 181, rfl⟩
abbrev main_call3_v0 : Ref sig .tc := ⟨.hbm, 182, rfl⟩
abbrev main_call3_v1 : Ref sig .tc := ⟨.hbm, 183, rfl⟩
abbrev main_call3_c_0 : Ref sig .tc := ⟨.hbm, 184, rfl⟩
abbrev main_call3_v2 : Ref sig .tc := ⟨.hbm, 185, rfl⟩
abbrev main_call3_v3 : Ref sig .tc := ⟨.hbm, 186, rfl⟩
abbrev main_call3_v4 : Ref sig .tc := ⟨.hbm, 187, rfl⟩
abbrev main_call3_v5 : Ref sig .tc := ⟨.hbm, 188, rfl⟩
abbrev main_call3_c_1 : Ref sig .tc := ⟨.hbm, 189, rfl⟩
abbrev main_call3_c_2 : Ref sig .tc := ⟨.hbm, 190, rfl⟩
abbrev main_call3_v6 : Ref sig .tc := ⟨.hbm, 191, rfl⟩
abbrev main_call3_v7 : Ref sig .tc := ⟨.hbm, 192, rfl⟩
abbrev main_call3_v8 : Ref sig .tc := ⟨.hbm, 193, rfl⟩
abbrev main_call3_v9 : Ref sig .tc := ⟨.hbm, 194, rfl⟩
abbrev main_call3_v10 : Ref sig .tc := ⟨.hbm, 195, rfl⟩
abbrev main_call3_v11 : Ref sig .tc := ⟨.hbm, 196, rfl⟩
abbrev main_call3_c_3 : Ref sig .tc := ⟨.hbm, 197, rfl⟩
abbrev main_call3_v12 : Ref sig .tc := ⟨.hbm, 198, rfl⟩
abbrev main_call3_v13 : Ref sig .tc := ⟨.hbm, 199, rfl⟩
abbrev main_call3_cst : Ref sig .tc := ⟨.hbm, 200, rfl⟩
abbrev main_call3_v14 : Ref sig .tc := ⟨.hbm, 201, rfl⟩
abbrev main_v110 : Ref sig .tc := ⟨.hbm, 202, rfl⟩
abbrev main_v111 : Ref sig .tc := ⟨.hbm, 203, rfl⟩
abbrev main_v112 : Ref sig .tc := ⟨.hbm, 204, rfl⟩
abbrev main_v113 : Ref sig .tc := ⟨.hbm, 205, rfl⟩
abbrev main_v114 : Ref sig .tc := ⟨.hbm, 206, rfl⟩
abbrev main_v115 : Ref sig .tc := ⟨.hbm, 207, rfl⟩
abbrev main_cst_43 : Ref sig .tc := ⟨.hbm, 208, rfl⟩
abbrev main_v116 : Ref sig .tc := ⟨.hbm, 209, rfl⟩
abbrev main_cst_44 : Ref sig .tc := ⟨.hbm, 210, rfl⟩
abbrev main_v117 : Ref sig .tc := ⟨.hbm, 211, rfl⟩
abbrev main_cst_45 : Ref sig .tc := ⟨.hbm, 212, rfl⟩
abbrev main_v118 : Ref sig .tc := ⟨.hbm, 213, rfl⟩
abbrev main_v119 : Ref sig .tc := ⟨.hbm, 214, rfl⟩

abbrev nD : Nat := 1
abbrev τ : Topo := Topo.v7x

variable {F : FTy → Type} [FloatOps F]
-- ==== Proof.Body.lean ====
/- What one grid point of the fused resize and cross-entropy kernel stores, said once for every channel and every band
   of 32 rows: the maximum over the channels, the width interpolation of a channel, the height interpolation of a band,
   the sums over the 19 classes, and the two sums over the 16 bands. -/
module

public import proofs.«01_k».proof.Proof.Gen.KernelIdeal.Frame

@[expose] public section

noncomputable section

namespace Cert.KernelIdeal.Body

open Cert.KernelIdeal Cert.KernelIdeal.Gen Idealize.ShloMosaic Idealize.ShloMosaic.TcCoe Idealize.SL.Sem
open Idealize.ShloMosaic.Tactic

variable {F : FTy → Type} [FloatOps F] [Named F]

/-! ## The loads -/

theorem inb_seg (k : Fin 19) : ∀ a, (![0, k.val, 0, 0] : Fin 4 → Nat) a + S1x1x128x128.size a ≤ S1x19x128x128.size a := by
  revert k; decide

theorem inb_lab (k : Fin 16) : ∀ a, (![0, 32 * k.val, 0] : Fin 3 → Nat) a + S1x32x512.size a ≤ S1x512x512.size a := by
  revert k; decide

theorem inb_wy (k : Fin 16) : ∀ a, (![32 * k.val, 0] : Fin 2 → Nat) a + S32x24.size a ≤ S512x24.size a := by
  revert k; decide

/-- Where a channel lies in the block of logits. -/
abbrev segRect (k : Fin 19) : Rect S1x19x128x128 := Rect.unit ![0, k.val, 0, 0] S1x1x128x128.size (inb_seg k)
/-- Where a band of rows lies in the block of labels. -/
abbrev labRect (k : Fin 16) : Rect S1x512x512 := Rect.unit ![0, 32 * k.val, 0] S1x32x512.size (inb_lab k)
/-- Where a band of rows lies in the height table. -/
abbrev wyRect (k : Fin 16) : Rect S512x24 := Rect.unit ![32 * k.val, 0] S32x24.size (inb_wy k)

/-! ## One point's work over the blocks as loaded -/

/-- The first of the 24 source rows a band of 32 target rows draws on. -/
def start (k : Nat) : Nat := min (8 * (k - 1)) 104

theorem slices_start (k : Fin 16) : S128x512.Slices ![start k.val, 0] S24x512 := by revert k; decide

/-- A channel's logits as a plane. -/
def plane (seg : Fin 19 → Vec F S1x1x128x128 .f32) (k : Fin 19) : FVec F S128x128 .f32 :=
  shapeCast S128x128 (seg k) shapeCasts_S1x1x128x128_S128x128

/-- The maximum over the channels, taken as a tree. -/
def top (p : Fin 19 → FVec F S128x128 .f32) : FVec F S128x128 .f32 :=
  maximumf
    (maximumf
      (maximumf (maximumf (maximumf (p 0) (p 1)) (maximumf (p 2) (p 3))) (maximumf (maximumf (p 4) (p 5)) (maximumf (p 6) (p 7))))
      (maximumf (maximumf (maximumf (p 8) (p 9)) (maximumf (p 10) (p 11))) (maximumf (maximumf (p 12) (p 13)) (maximumf (p 14) (p 15)))))
    (maximumf (maximumf (p 16) (p 17)) (p 18))

/-- A plane interpolated along its width. -/
def widen (w : FVec F S128x512 .f32) (x : FVec F S128x128 .f32) : FVec F S128x512 .f32 :=
  matmul dot_S128x128_S128x512_S128x512_1_0_0_1_n_n none x w (constant S128x512 .f32 0x00000000#32)

/-- A band of a widened plane interpolated along its height. -/
def heighten (k : Fin 16) (wy : Vec F S32x24 .f32) (x : FVec F S128x512 .f32) : FVec F S32x512 .f32 :=
  matmul dot_S32x24_S24x512_S32x512_1_0_0_1_n_n none wy
    (extractStridedSlice S24x512 ![start k.val, 0] x (slices_start k)) (constant S32x512 .f32 0x00000000#32)

/-- The sum of the powers of two of the first `n + 1` classes. -/
def powSum (v : Fin 19 → FVec F S32x512 .f32) : Nat → FVec F S32x512 .f32
  | 0 => exp2 (v 0)
  | n + 1 => addf (powSum v n) (exp2 (v (Fin.ofNat 19 (n + 1))))

/-- A class's value where the label is the class, zero elsewhere. -/
def pick (lab : IVec S32x512 32) (v : Fin 19 → FVec F S32x512 .f32) (n : Nat) : FVec F S32x512 .f32 :=
  select (cmpi .eq lab (broadcast S32x512 (BitVec.ofNat 32 n))) (v (Fin.ofNat 19 n))
    (broadcast S32x512 (Scalar.ofBits (F := F) .f32 0x00000000#32))

/-- The sum of the picks of the first `n + 1` classes. -/
def pickSum (lab : IVec S32x512 32) (v : Fin 19 → FVec F S32x512 .f32) : Nat → FVec F S32x512 .f32
  | 0 => pick lab v 0
  | n + 1 => addf (pickSum lab v n) (pick lab v (n + 1))

/-- One where the boundary label is zero, zero elsewhere. -/
def valid (gb : Vec F S1x32x512 .i32) : FVec F S32x512 .f32 :=
  sitofp .f32 (extui 32 (cmpi .eq (shapeCast S32x512 gb shapeCasts_S1x32x512_S32x512) (broadcast S32x512 0#32)) natLt_1_32)

/-- The sum of a band's entries. -/
def total (x : FVec F S32x512 .f32) : F .f32 :=
  extractAt ![0, 0, 0]
    (shapeCast S1x1x1
      (multiReduction .add [1, 2] S1 (shapeCast S1x32x512 x shapeCasts_S32x512_S1x32x512) 0x00000000#32 reduces_S1x32x512_S1
        (.inl rfl) rfl)
      shapeCasts_S1_S1x1x1)
    inpos_S1x1x1_p0_0_0

/-- A band's weighted losses. -/
def loss (k : Fin 16) (ci : Fin 19 → FVec F S128x512 .f32) (cci : FVec F S128x512 .f32) (wy : Vec F S32x24 .f32)
    (gb lab : Vec F S1x32x512 .i32) : FVec F S32x512 .f32 :=
  mulf
    (mulf
      (subf
        (mulf (log (powSum (fun i => heighten k wy (ci i)) 18)) (broadcast S32x512 (Named.named κ "log2e" 0x3FB8AA3B#32)))
        (pickSum (shapeCast S32x512 lab shapeCasts_S1x32x512_S32x512) (fun i => heighten k wy (ci i)) 18))
      (heighten k wy cci))
    (valid gb)

/-- The sum of the weighted losses over the first `n` bands. -/
def numSum (ci : Fin 19 → FVec F S128x512 .f32) (cci : FVec F S128x512 .f32) (wy : Fin 16 → Vec F S32x24 .f32)
    (gb lab : Fin 16 → Vec F S1x32x512 .i32) : Nat → F .f32
  | 0 => Scalar.ofBits .f32 0x00000000#32
  | n + 1 => Scalar.addf (numSum ci cci wy gb lab n)
      (total (loss (Fin.ofNat 16 n) ci cci (wy (Fin.ofNat 16 n)) (gb (Fin.ofNat 16 n)) (lab (Fin.ofNat 16 n))))

/-- The count of the valid pixels over the first `n` bands. -/
def denSum (gb : Fin 16 → Vec F S1x32x512 .i32) : Nat → F .f32
  | 0 => Scalar.ofBits .f32 0x00000000#32
  | n + 1 => Scalar.addf (denSum gb n) (total (valid (gb (Fin.ofNat 16 n))))

/-- The width table divided by log 2. -/
def scaled (wx : Vec F S128x512 .f32) : FVec F S128x512 .f32 :=
  mulf wx (broadcast S128x512 (Named.named κ "log2e" 0x3FB8AA3B#32))

/-- A channel less the maximum, widened. -/
def chan (seg : Fin 19 → Vec F S1x1x128x128 .f32) (wx : Vec F S128x512 .f32) (i : Fin 19) : FVec F S128x512 .f32 :=
  widen (scaled wx) (subf (plane seg i) (top (plane seg)))

/-- The confidence times the square of log 2, widened. -/
def confW (conf : Vec F S1x128x128 .f32) (wx : Vec F S128x512 .f32) : FVec F S128x512 .f32 :=
  widen (scaled wx)
    (mulf (shapeCast S128x128 conf shapeCasts_S1x128x128_S128x128) (broadcast S128x128 (Named.named κ "ln2sq" 0x3EF5FDF0#32)))

/-- One point's sum of weighted losses. -/
def pointNum (seg : Fin 19 → Vec F S1x1x128x128 .f32) (conf : Vec F S1x128x128 .f32) (wx : Vec F S128x512 .f32)
    (wy : Fin 16 → Vec F S32x24 .f32) (gb lab : Fin 16 → Vec F S1x32x512 .i32) : F .f32 :=
  numSum (chan seg wx) (confW conf wx) wy gb lab 16

/-! ## The stores -/

section stores
variable (c : Dev nD) (i : grid0.Coords)
  (arg1 : Memref sig .tc .vmem S1x19x128x128 .f32) (harg1 : arg1.IsWhole)
  (arg2 : Memref sig .tc .vmem S1x128x128 .f32) (harg2 : arg2.IsWhole)
  (arg3 : Memref sig .tc .vmem S1x512x512 .i32) (harg3 : arg3.IsWhole)
  (arg4 : Memref sig .tc .vmem S1x512x512 .i32) (harg4 : arg4.IsWhole)
  (arg5 : Memref sig .tc .vmem S512x24 .f32) (harg5 : arg5.IsWhole)
  (arg6 : Memref sig .tc .vmem S128x512 .f32) (harg6 : arg6.IsWhole)
  (arg7 : Memref sig .tc .vmem S1x1 .f32) (harg7 : arg7.IsWhole)
  (arg8 : Memref sig .tc .vmem S1x1 .f32) (harg8 : arg8.IsWhole)
  (x0 : Vec F S1x19x128x128 .f32) (x1 : Vec F S1x128x128 .f32) (x2 : Vec F S1x512x512 .i32) (x3 : Vec F S1x512x512 .i32)
  (x4 : Vec F S512x24 .f32) (x5 : Vec F S128x512 .f32) (xo6 : Vec F S1x1 .f32) (xo7 : Vec F S1x1 .f32)

/-- The point's sum of weighted losses over the staging buffers. -/
def numAt : F .f32 :=
  pointNum (fun k => View.readAt (Elt F) arg1.view (segRect k).toLoadRect (harg1.unread x0))
    (View.readAt (Elt F) arg2.view (Rect.unit ![0, 0, 0] S1x128x128.size inb_S1x128x128_S1x128x128_0_0_0).toLoadRect (harg2.unread x1))
    (View.readAt (Elt F) arg6.view (Rect.unit ![0, 0] S128x512.size inb_S128x512_S128x512_0_0).toLoadRect (harg6.unread x5))
    (fun k => View.readAt (Elt F) arg5.view (wyRect k).toLoadRect (harg5.unread x4))
    (fun k => View.readAt (Elt F) arg3.view (labRect k).toLoadRect (harg3.unread x2))
    (fun k => View.readAt (Elt F) arg4.view (labRect k).toLoadRect (harg4.unread x3))

/-- The point's count of valid pixels over the staging buffer. -/
def denAt : F .f32 := denSum (fun k => View.readAt (Elt F) arg3.view (labRect k).toLoadRect (harg3.unread x2)) 16

theorem run_A_den (hc0 : cond0_0 i) (hc1 : ¬cond0_1 i) :
    (kernelRun0_A c i arg1 harg1 arg2 harg2 arg3 harg3 arg4 harg4 arg5 harg5 arg6 harg6 arg7 harg7 arg8 harg8 hc0 hc1 x0 x1 x2 x3 x4 x5).2.1
      = [⟨Rect.unit ![0, 0] S1x1.size inb_S1x1_S1x1_0_0, broadcast S1x1 (denAt arg3 harg3 x2)⟩] := by
  sl_kernel_rfl

theorem run_A_num (hc0 : cond0_0 i) (hc1 : ¬cond0_1 i) :
    (kernelRun0_A c i arg1 harg1 arg2 harg2 arg3 harg3 arg4 harg4 arg5 harg5 arg6 harg6 arg7 harg7 arg8 harg8 hc0 hc1 x0 x1 x2 x3 x4 x5).1
      = [⟨Rect.unit ![0, 0] S1x1.size inb_S1x1_S1x1_0_0,
          broadcast S1x1 (numAt arg1 harg1 arg2 harg2 arg3 harg3 arg4 harg4 arg5 harg5 arg6 harg6 x0 x1 x2 x3 x4 x5)⟩] := by
  sl_kernel_rfl

theorem run_B_den (hc0 : ¬cond0_0 i) (hc1 : cond0_1 i) :
    (kernelRun0_B c i arg1 harg1 arg2 harg2 arg3 harg3 arg4 harg4 arg5 harg5 arg6 harg6 arg7 harg7 arg8 harg8 hc0 hc1 x0 x1 x2 x3 x4 x5 xo6 xo7).2.1
      = [⟨Rect.unit ![0, 0] S1x1.size inb_S1x1_S1x1_0_0,
          addf (shapeCast S1x1 (View.readAt (Elt F) arg8.view (Rect.unit ![0, 0] S1x1.size inb_S1x1_S1x1_0_0).toLoadRect (harg8.unread xo7))
              shapeCasts_S1x1_S1x1)
            (broadcast S1x1 (denAt arg3 harg3 x2))⟩] := by
  sl_kernel_rfl

theorem run_B_num (hc0 : ¬cond0_0 i) (hc1 : cond0_1 i) :
    (kernelRun0_B c i arg1 harg1 arg2 harg2 arg3 harg3 arg4 harg4 arg5 harg5 arg6 harg6 arg7 harg7 arg8 harg8 hc0 hc1 x0 x1 x2 x3 x4 x5 xo6 xo7).1
      = [⟨Rect.unit ![0, 0] S1x1.size inb_S1x1_S1x1_0_0,
          addf (shapeCast S1x1 (View.readAt (Elt F) arg7.view (Rect.unit ![0, 0] S1x1.size inb_S1x1_S1x1_0_0).toLoadRect (harg7.unread xo6))
              shapeCasts_S1x1_S1x1)
            (broadcast S1x1 (numAt arg1 harg1 arg2 harg2 arg3 harg3 arg4 harg4 arg5 harg5 arg6 harg6 x0 x1 x2 x3 x4 x5))⟩] := by
  sl_kernel_rfl

end stores

end Cert.KernelIdeal.Body

end
-- ==== Proof.Accum.lean ====
/- What the kernel's two result arrays hold after the run: the four points' sums, added in the grid's order. -/
module

public import proofs.«01_k».proof.Proof.Body
public import Idealize.ShloMosaic.Lib.Pipeline.Value
public import Idealize.ShloMosaic.Lib.VecWindow
public import Idealize.ShloMosaic.Lib.WholeRead
public import Idealize.ShloMosaic.Lib.Pointwise

@[expose] public section

set_option maxRecDepth 16384

noncomputable section

namespace Cert.KernelIdeal.Body

open Cert.KernelIdeal Cert.KernelIdeal.Gen Idealize.ShloMosaic Idealize.ShloMosaic.TcCoe Idealize.SL.Sem
open Idealize.ShloMosaic.Tactic

variable {F : FTy → Type} [FloatOps F] [Named F]
variable (m : (ℓ : Loc nD τ sig) → Buf (Elt F) ℓ)

/-- A point's sum of weighted losses over its blocks. -/
def numOf (x0 : Vec F S1x19x128x128 .f32) (x1 : Vec F S1x128x128 .f32) (x2 : Vec F S1x512x512 .i32) (x3 : Vec F S1x512x512 .i32)
    (x4 : Vec F S512x24 .f32) (x5 : Vec F S128x512 .f32) : F .f32 :=
  pointNum (fun k => View.ld x0 (segRect k)) (View.ld x1 (Rect.unit ![0, 0, 0] S1x128x128.size inb_S1x128x128_S1x128x128_0_0_0))
    (View.ld x5 (Rect.unit ![0, 0] S128x512.size inb_S128x512_S128x512_0_0)) (fun k => View.ld x4 (wyRect k))
    (fun k => View.ld x2 (labRect k)) (fun k => View.ld x3 (labRect k))

/-- A point's count of valid pixels over its block. -/
def denOf (x2 : Vec F S1x512x512 .i32) : F .f32 := denSum (fun k => View.ld x2 (labRect k)) 16

theorem readAt_whole {sp : Space} {s : Shape} {e : EltTy} {arg : Memref sig .tc sp s e} (h : arg.IsWhole) (x : s.Idx → Elt F e)
    (r : Rect s) : View.readAt (Elt F) arg.view r.toLoadRect (h.unread x) = View.ld x r :=
  funext fun y => h.readAt_unread x r.toLoadRect y

theorem numAt_eq (arg1 : Memref sig .tc .vmem S1x19x128x128 .f32) (harg1 : arg1.IsWhole)
    (arg2 : Memref sig .tc .vmem S1x128x128 .f32) (harg2 : arg2.IsWhole) (arg3 : Memref sig .tc .vmem S1x512x512 .i32)
    (harg3 : arg3.IsWhole) (arg4 : Memref sig .tc .vmem S1x512x512 .i32) (harg4 : arg4.IsWhole)
    (arg5 : Memref sig .tc .vmem S512x24 .f32) (harg5 : arg5.IsWhole) (arg6 : Memref sig .tc .vmem S128x512 .f32) (harg6 : arg6.IsWhole)
    (x0 : Vec F S1x19x128x128 .f32) (x1 : Vec F S1x128x128 .f32) (x2 : Vec F S1x512x512 .i32) (x3 : Vec F S1x512x512 .i32)
    (x4 : Vec F S512x24 .f32) (x5 : Vec F S128x512 .f32) :
    numAt arg1 harg1 arg2 harg2 arg3 harg3 arg4 harg4 arg5 harg5 arg6 harg6 x0 x1 x2 x3 x4 x5 = numOf x0 x1 x2 x3 x4 x5 := by
  simp only [numAt, numOf, readAt_whole]

theorem denAt_eq (arg3 : Memref sig .tc .vmem S1x512x512 .i32) (harg3 : arg3.IsWhole) (x2 : Vec F S1x512x512 .i32) :
    denAt arg3 harg3 x2 = denOf x2 := by
  simp only [denAt, denOf, readAt_whole]

/-- A point's two numbers. -/
def num (c : Dev nD) (t : Fin cfg0.N) : F .f32 :=
  numOf (iblk m c 0 t) (iblk m c 1 t) (iblk m c 2 t) (iblk m c 3 t) (iblk m c 4 t) (iblk m c 5 t)
def den (c : Dev nD) (t : Fin cfg0.N) : F .f32 := denOf (iblk m c 2 t)

theorem readAt_one {arg : Memref sig .tc .vmem S1x1 .f32} (h : arg.IsWhole) (x : Vec F S1x1 .f32) :
    shapeCast S1x1 (View.readAt (Elt F) arg.view (Rect.unit ![0, 0] S1x1.size inb_S1x1_S1x1_0_0).toLoadRect (h.unread x))
      shapeCasts_S1x1_S1x1 = x := by
  have e : View.readAt (Elt F) arg.view (Rect.unit ![0, 0] S1x1.size inb_S1x1_S1x1_0_0).toLoadRect (h.unread x) = x :=
    (readAt_whole h x _).trans (View.ld_unit_zero (by funext a; fin_cases a <;> rfl) _ x)
  exact (congrArg (fun y => shapeCast S1x1 y shapeCasts_S1x1_S1x1) e).trans (shapeCast_self x _)

section cases
variable (c : Dev nD) (i : grid0.Coords)
  (arg1 : Memref sig .tc .vmem S1x19x128x128 .f32) (harg1 : arg1.IsWhole)
  (arg2 : Memref sig .tc .vmem S1x128x128 .f32) (harg2 : arg2.IsWhole)
  (arg3 : Memref sig .tc .vmem S1x512x512 .i32) (harg3 : arg3.IsWhole)
  (arg4 : Memref sig .tc .vmem S1x512x512 .i32) (harg4 : arg4.IsWhole)
  (arg5 : Memref sig .tc .vmem S512x24 .f32) (harg5 : arg5.IsWhole)
  (arg6 : Memref sig .tc .vmem S128x512 .f32) (harg6 : arg6.IsWhole)
  (arg7 : Memref sig .tc .vmem S1x1 .f32) (harg7 : arg7.IsWhole)
  (arg8 : Memref sig .tc .vmem S1x1 .f32) (harg8 : arg8.IsWhole)
  (x0 : Vec F S1x19x128x128 .f32) (x1 : Vec F S1x128x128 .f32) (x2 : Vec F S1x512x512 .i32) (x3 : Vec F S1x512x512 .i32)
  (x4 : Vec F S512x24 .f32) (x5 : Vec F S128x512 .f32) (xo6 : Vec F S1x1 .f32) (xo7 : Vec F S1x1 .f32)

theorem out_A_6 (hc0 : cond0_0 i) (hc1 : ¬cond0_1 i) :
    out0_A_6 c i arg1 harg1 arg2 harg2 arg3 harg3 arg4 harg4 arg5 harg5 arg6 harg6 arg7 harg7 arg8 harg8 hc0 hc1 x0 x1 x2 x3 x4 x5 = broadcast S1x1 (numOf x0 x1 x2 x3 x4 x5) :=
  (congrArg (fun L => VO0_6.read (Elt F) (VO0_6.writes (Elt F) VO0_6.junk L)) (run_A_num c i arg1 harg1 arg2 harg2 arg3 harg3 arg4 harg4 arg5 harg5 arg6 harg6 arg7 harg7 arg8 harg8 x0 x1 x2 x3 x4 x5 hc0 hc1)).trans
    ((View.read_writes_full VO0_6 VO0_6.junk inb_S1x1_S1x1_0_0 _ []).trans (congrArg (broadcast S1x1) (numAt_eq arg1 harg1 arg2 harg2 arg3 harg3 arg4 harg4 arg5 harg5 arg6 harg6 x0 x1 x2 x3 x4 x5)))

theorem out_B_6 (hc0 : ¬cond0_0 i) (hc1 : cond0_1 i) :
    out0_B_6 c i arg1 harg1 arg2 harg2 arg3 harg3 arg4 harg4 arg5 harg5 arg6 harg6 arg7 harg7 arg8 harg8 hc0 hc1 x0 x1 x2 x3 x4 x5 xo6 xo7 = addf xo6 (broadcast S1x1 (numOf x0 x1 x2 x3 x4 x5)) :=
  (congrArg (fun L => VO0_6.read (Elt F) (VO0_6.writes (Elt F) VO0_6.junk L)) (run_B_num c i arg1 harg1 arg2 harg2 arg3 harg3 arg4 harg4 arg5 harg5 arg6 harg6 arg7 harg7 arg8 harg8 x0 x1 x2 x3 x4 x5 xo6 xo7 hc0 hc1)).trans
    ((View.read_writes_full VO0_6 VO0_6.junk inb_S1x1_S1x1_0_0 _ []).trans
      (congrArg₂ (fun a b => addf a (broadcast S1x1 b)) (readAt_one harg7 xo6) (numAt_eq arg1 harg1 arg2 harg2 arg3 harg3 arg4 harg4 arg5 harg5 arg6 harg6 x0 x1 x2 x3 x4 x5)))

theorem out_A_7 (hc0 : cond0_0 i) (hc1 : ¬cond0_1 i) :
    out0_A_7 c i arg1 harg1 arg2 harg2 arg3 harg3 arg4 harg4 arg5 harg5 arg6 harg6 arg7 harg7 arg8 harg8 hc0 hc1 x0 x1 x2 x3 x4 x5 = broadcast S1x1 (denOf x2) :=
  (congrArg (fun L => VO0_7.read (Elt F) (VO0_7.writes (Elt F) VO0_7.junk L)) (run_A_den c i arg1 harg1 arg2 harg2 arg3 harg3 arg4 harg4 arg5 harg5 arg6 harg6 arg7 harg7 arg8 harg8 x0 x1 x2 x3 x4 x5 hc0 hc1)).trans
    ((View.read_writes_full VO0_7 VO0_7.junk inb_S1x1_S1x1_0_0 _ []).trans (congrArg (broadcast S1x1) (denAt_eq arg3 harg3 x2)))

theorem out_B_7 (hc0 : ¬cond0_0 i) (hc1 : cond0_1 i) :
    out0_B_7 c i arg1 harg1 arg2 harg2 arg3 harg3 arg4 harg4 arg5 harg5 arg6 harg6 arg7 harg7 arg8 harg8 hc0 hc1 x0 x1 x2 x3 x4 x5 xo6 xo7 = addf xo7 (broadcast S1x1 (denOf x2)) :=
  (congrArg (fun L => VO0_7.read (Elt F) (VO0_7.writes (Elt F) VO0_7.junk L)) (run_B_den c i arg1 harg1 arg2 harg2 arg3 harg3 arg4 harg4 arg5 harg5 arg6 harg6 arg7 harg7 arg8 harg8 x0 x1 x2 x3 x4 x5 xo6 xo7 hc0 hc1)).trans
    ((View.read_writes_full VO0_7 VO0_7.junk inb_S1x1_S1x1_0_0 _ []).trans
      (congrArg₂ (fun a b => addf a (broadcast S1x1 b)) (readAt_one harg8 xo7) (denAt_eq arg3 harg3 x2)))

end cases

theorem outs_A (c : Dev nD) (t : Fin cfg0.N) (h0 : t.val % 4 = 0) (h1 : ¬1 ≤ t.val) :
    outsAt0 m c t.val t.isLt = (broadcast S1x1 (num m c t), broadcast S1x1 (den m c t)) :=
  (outsAt0_A m c t h0 h1).trans (congrArg₂ Prod.mk (out_A_6 ..) (out_A_7 ..))

theorem outs_B (c : Dev nD) (t : Fin cfg0.N) (h0 : ¬t.val % 4 = 0) (h1 : 1 ≤ t.val) :
    outsAt0 m c t.val t.isLt
      = (addf (outsAt0 m c (t.val - 1) (Nat.lt_of_le_of_lt (Nat.sub_le _ _) t.isLt)).1 (broadcast S1x1 (num m c t)),
         addf (outsAt0 m c (t.val - 1) (Nat.lt_of_le_of_lt (Nat.sub_le _ _) t.isLt)).2 (broadcast S1x1 (den m c t))) :=
  (outsAt0_B m c t h0 h1).trans (congrArg₂ Prod.mk (out_B_6 ..) (out_B_7 ..))

/-- The four points' numbers, added in order. -/
def numAll (c : Dev nD) : F .f32 :=
  FloatOps.addf (FloatOps.addf (FloatOps.addf (num m c ⟨0, by decide⟩) (num m c ⟨1, by decide⟩)) (num m c ⟨2, by decide⟩)) (num m c ⟨3, by decide⟩)
def denAll (c : Dev nD) : F .f32 :=
  FloatOps.addf (FloatOps.addf (FloatOps.addf (den m c ⟨0, by decide⟩) (den m c ⟨1, by decide⟩)) (den m c ⟨2, by decide⟩)) (den m c ⟨3, by decide⟩)

theorem outs_last (c : Dev nD) :
    outsAt0 m c 3 (by decide) = (broadcast S1x1 (numAll m c), broadcast S1x1 (denAll m c)) := by
  have e0 := outs_A m c ⟨0, by decide⟩ rfl (by decide)
  have e1 := outs_B m c ⟨1, by decide⟩ (by decide) (by decide)
  have e2 := outs_B m c ⟨2, by decide⟩ (by decide) (by decide)
  have e3 := outs_B m c ⟨3, by decide⟩ (by decide) (by decide)
  dsimp only [Nat.reduceSub] at e0 e1 e2 e3
  rw [e3, e2, e1, e0]
  rfl

instance one_idx : Subsingleton S1x1.Idx := ⟨fun a b => by
  funext k; apply Fin.ext
  match k with
  | ⟨0, _⟩ => have := (a 0).isLt; have := (b 0).isLt; simp at *; omega
  | ⟨1, _⟩ => have := (a 1).isLt; have := (b 1).isLt; simp at *; omega⟩

/-- The last point. -/
abbrev last : Fin cfg0.N := ⟨3, by decide⟩

theorem flush6 : ∀ t : Fin cfg0.N, (cfg0.win 6).flush t = true → t = last := by decide +kernel
theorem flush7 : ∀ t : Fin cfg0.N, (cfg0.win 7).flush t = true → t = last := by decide +kernel

theorem arr6 (c : Dev nD) (i : S1x1.Idx) : ((dats m 0 c).arrAt 6 cfg0.N : Vec F S1x1 .f32) i = numAll m c := by
  have h := (dats m 0 c).arrAt_emb_eq_flushed 6 (fun t t' h h' hn => absurd ((flush6 t h).trans (flush6 t' h').symm) hn)
    last (by decide +kernel) (ix2 0 0)
  have hi : @Eq S1x1.Idx (((cfg0.win 6).blk last).view.emb (ix2 0 0)) i := Subsingleton.elim _ _
  rw [← hi]
  refine h.trans ?_
  show (cfg0.win 6).cut (grid0.coords last) ((dats m 0 c).after 6 last) (ix2 0 0) = _
  rw [after0_6, outs_last]
  rfl

theorem arr7 (c : Dev nD) (i : S1x1.Idx) : ((dats m 0 c).arrAt 7 cfg0.N : Vec F S1x1 .f32) i = denAll m c := by
  have h := (dats m 0 c).arrAt_emb_eq_flushed 7 (fun t t' h h' hn => absurd ((flush7 t h).trans (flush7 t' h').symm) hn)
    last (by decide +kernel) (ix2 0 0)
  have hi : @Eq S1x1.Idx (((cfg0.win 7).blk last).view.emb (ix2 0 0)) i := Subsingleton.elim _ _
  rw [← hi]
  refine h.trans ?_
  show (cfg0.win 7).cut (grid0.coords last) ((dats m 0 c).after 7 last) (ix2 0 0) = _
  rw [after0_7, outs_last]
  rfl

end Cert.KernelIdeal.Body

end
-- ==== Proof.Run.lean ====
/- The idealized kernel's run: its result is the sum of weighted losses over the count of valid pixels, at least one. -/
module

public import proofs.«01_k».proof.Proof.Accum
public import Idealize.ShloMosaic.Lib.Pipeline.ValueKit.Geometry
public import Idealize.ShloMosaic.Lib.Claim

@[expose] public section

set_option maxRecDepth 16384

noncomputable section

namespace Cert.KernelIdeal.Body

open Cert.KernelIdeal Cert.KernelIdeal.Gen Idealize.ShloMosaic Idealize.ShloMosaic.TcCoe Idealize.SL.Sem
open Idealize.ShloMosaic.Tactic

variable {F : FTy → Type} [FloatOps F] [Named F]
variable (m : (ℓ : Loc nD τ sig) → Buf (Elt F) ℓ) (ρ : Dev nD → PrngReg)

/-- The result. -/
def res (c : Dev nD) : FVec F S_ .f32 :=
  Host.divf (fun _ => numAll m c) (maximumf (fun _ => denAll m c) (constant S_ .f32 0x3F800000#32))

theorem arrays_distinct : Function.Injective (Pipeline.arrRef spec0) := by decide

/-- The lines after the region, from any contents. -/
theorem lines_value (W : Valuation τ sig (Elt F)) :
    StableHlo.after hostOps1 W (Proc.tc.devRef main_v5)
      = Host.divf (shapeCast S_ (W (Proc.tc.devRef main_v1_0) : Vec F S1x1 .f32) shapeCasts_S1x1_S_)
          (maximumf (shapeCast S_ (W (Proc.tc.devRef main_v1_1) : Vec F S1x1 .f32) shapeCasts_S1x1_S_) (constant S_ .f32 0x3F800000#32)) := by
  after_results
  rfl

theorem tail_value (c : Dev nD) :
    Pipeline.afterTail₀ cfgs (dats m) 0 (V0 m) [hostOps1] c main_v5 = res m c := by
  refine (lines_value (Pipeline.withArrays spec0 c (V0 m c) fun w => (dats m 0 c).arrAt w cfg0.N)).trans ?_
  have h6 := Pipeline.withArrays_arr spec0 arrays_distinct c (V0 m c) (fun w => (dats m 0 c).arrAt w cfg0.N) 6
  have h7 := Pipeline.withArrays_arr spec0 arrays_distinct c (V0 m c) (fun w => (dats m 0 c).arrAt w cfg0.N) 7
  have k6 : (Pipeline.withArrays spec0 c (V0 m c) (fun w => (dats m 0 c).arrAt w cfg0.N) (Proc.tc.devRef main_v1_0) : Vec F S1x1 .f32)
      = fun _ => numAll m c := funext fun i => (congrFun h6 i).trans (arr6 m c i)
  have k7 : (Pipeline.withArrays spec0 c (V0 m c) (fun w => (dats m 0 c).arrAt w cfg0.N) (Proc.tc.devRef main_v1_1) : Vec F S1x1 .f32)
      = fun _ => denAll m c := funext fun i => (congrFun h7 i).trans (arr7 m c i)
  exact congrArg₂ (fun a b : Vec F S1x1 .f32 => Host.divf (shapeCast S_ a shapeCasts_S1x1_S_)
    (maximumf (shapeCast S_ b shapeCasts_S1x1_S_) (constant S_ .f32 0x3F800000#32))) k6 k7

/-- The kernel's run: its result, and its arguments unchanged. -/
theorem run_value : θ_run defs (onTc (τ := τ) (main (F := F))) ⟨m, fun _ => 0, ρ⟩ (fun r => ∀ c : Dev nD,
      r.2.mem ((c.tc : Thread nD τ).loc main_v5) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1 c).2 main_v5 (Pipeline.mem_restRefs_of main_v5 (by decide) (by decide))).trans (tail_value m c), h.2 c⟩)
    (θ_run_and (run_main m ρ) (unchanged m ρ))

end Cert.KernelIdeal.Body

end
-- ==== Proof.Eval.lean ====
/- The kernel's parts read at an index over the extended reals. -/
module

public import proofs.«01_k».proof.Proof.Body
public import Idealize.ShloMosaic.Lib.Pointwise

@[expose] public section

set_option maxRecDepth 16384

noncomputable section

namespace Cert.KernelIdeal.Body

open Cert.KernelIdeal Cert.KernelIdeal.Gen Idealize.ShloMosaic
open scoped BigOperators

theorem widen_apply (w : FVec Ideal S128x512 .f32) (x : FVec Ideal S128x128 .f32) (i : Fin 128) (j : Fin 512) :
    widen w x (ix2 i j) = ∑ k : Fin 128, x (ix2 i k) * w (ix2 k j) := by
  pointwise [widen]

theorem heighten_apply (k : Fin 16) (wy : Vec Ideal S32x24 .f32) (x : FVec Ideal S128x512 .f32) (r : Fin 32) (j : Fin 512)
    (h : ∀ t : Fin 24, start k.val + t.val < 128) :
    heighten k wy x (ix2 r j) = ∑ t : Fin 24, wy (ix2 r t) * x (ix2 ⟨start k.val + t.val, h t⟩ j) := by
  pointwise [heighten]

theorem plane_apply (seg : Fin 19 → Vec Ideal S1x1x128x128 .f32) (k : Fin 19) (i j : Fin 128) :
    plane seg k (ix2 i j) = seg k (ix4 0 0 i j) := by
  pointwise [plane]

theorem confPlane_apply (conf : Vec Ideal S1x128x128 .f32) (i j : Fin 128) :
    shapeCast S128x128 conf shapeCasts_S1x128x128_S128x128 (ix2 i j) = conf (ix3 0 i j) := by
  pointwise

theorem powSum_apply (v : Fin 19 → FVec Ideal S32x512 .f32) (n : Nat) (p : S32x512.Idx) :
    powSum v n p = ∑ i ∈ Finset.range (n + 1), Ideal.exp2 (v (Fin.ofNat 19 i) p) := by
  induction n with
  | zero => rw [Finset.sum_range_one]; rfl
  | succ n ih => rw [Finset.sum_range_succ, ← ih]; rfl

theorem total_apply (x : FVec Ideal S32x512 .f32) : total x = ∑ r : Fin 32, ∑ j : Fin 512, x (ix2 r j) := by
  pointwise [total]

theorem valid_apply (gb : Vec Ideal S1x32x512 .i32) (r : Fin 32) (j : Fin 512) :
    valid gb (ix2 r j) = if gb (ix3 0 r j) = 0#32 then (1 : EReal) else 0 := by
  have e : ∀ g : BitVec 32, FloatOps.sitofp (F := Ideal) FTy.f32 (BitVec.setWidth 32 (IntOp.cmpi CmpIPredicate.eq g 0#32))
      = if g = 0#32 then (1 : EReal) else 0 := fun g => by
    by_cases h : g = 0#32
    · subst h
      rw [if_pos rfl]
      show (((1 : Int) : ℝ) : EReal) = 1
      simp
    · have b : IntOp.cmpi CmpIPredicate.eq g 0#32 = 0#1 := by
        show BitVec.ofBool (g == 0#32) = 0#1
        rw [beq_eq_false_iff_ne.mpr h]; rfl
      rw [if_neg h, b]
      show (((0 : Int) : ℝ) : EReal) = 0
      simp
  pointwise [valid]
  exact e _

/-- The sum of the picks is the value at the label. -/
theorem pickSum_apply (lab : IVec S32x512 32) (v : Fin 19 → FVec Ideal S32x512 .f32) (n : Nat) (p : S32x512.Idx) :
    pickSum lab v n p
      = ∑ i ∈ Finset.range (n + 1), if lab p = BitVec.ofNat 32 i then v (Fin.ofNat 19 i) p else (0 : EReal) := by
  have e : ∀ i, pick lab v i p = if lab p = BitVec.ofNat 32 i then v (Fin.ofNat 19 i) p else (0 : EReal) := fun i => by
    show (if BitVec.ofBool (lab p == BitVec.ofNat 32 i) = 1#1 then v (Fin.ofNat 19 i) p
      else Ideal.ofBits .f32 0x00000000#32) = _
    rw [Ideal.ofBits_zero_f32]
    by_cases h : lab p = BitVec.ofNat 32 i
    · rw [if_pos h, beq_iff_eq.mpr h]; rfl
    · rw [if_neg h, beq_eq_false_iff_ne.mpr h]; rfl
  induction n with
  | zero => rw [Finset.sum_range_one]; exact e 0
  | succ n ih => rw [Finset.sum_range_succ, ← ih, ← e]; rfl

theorem pickSum_label (lab : IVec S32x512 32) (v : Fin 19 → FVec Ideal S32x512 .f32) (p : S32x512.Idx) (l : Fin 19)
    (hl : lab p = BitVec.ofNat 32 l.val) : pickSum lab v 18 p = v l p := by
  rw [pickSum_apply, Finset.sum_eq_single l.val]
  · rw [if_pos hl, Fin.ofNat_val_eq_self]
  · intro b hb hne
    rw [hl, if_neg]
    intro h
    have hb' := Finset.mem_range.mp hb
    have h' := congrArg BitVec.toNat h
    simp only [BitVec.toNat_ofNat] at h'
    have := l.isLt
    omega
  · intro h
    exact absurd (Finset.mem_range.mpr l.isLt) h

theorem powSum_all (v : Fin 19 → FVec Ideal S32x512 .f32) (p : S32x512.Idx) :
    powSum v 18 p = ∑ i : Fin 19, Ideal.exp2 (v i p) := by
  rw [powSum_apply, Finset.sum_range]
  exact Finset.sum_congr rfl fun i _ => by rw [Fin.ofNat_val_eq_self]

theorem named_l2e : Named.named (F := Ideal) κ "log2e" (φ := .f32) 0x3FB8AA3B#32 = (((Real.log 2)⁻¹ : ℝ) : EReal) :=
  IdealRules.named_const.ideal_named_scalar _ _ _ _ rfl
theorem named_l2s : Named.named (F := Ideal) κ "ln2sq" (φ := .f32) 0x3EF5FDF0#32 = (((Real.log 2) * (Real.log 2) : ℝ) : EReal) :=
  IdealRules.named_const.ideal_named_scalar _ _ _ _ rfl

theorem scaled_apply (wx : Vec Ideal S128x512 .f32) (p : S128x512.Idx) :
    scaled wx p = wx p * (((Real.log 2)⁻¹ : ℝ) : EReal) := by
  rw [← named_l2e]; rfl

theorem max_real {x y : EReal} (hx : ∃ a : ℝ, x = a) (hy : ∃ a : ℝ, y = a) :
    ∃ a : ℝ, FloatOps.maximumf (F := Ideal) (φ := .f32) x y = a := by
  obtain ⟨a, rfl⟩ := hx
  obtain ⟨b, rfl⟩ := hy
  exact ⟨max a b, (EReal.coe_strictMono.monotone.map_max (a := a) (b := b)).symm⟩

/-- The maximum of real entries is real. -/
theorem top_real (p : Fin 19 → FVec Ideal S128x128 .f32) (q : S128x128.Idx) (h : ∀ i, ∃ a : ℝ, p i q = a) :
    ∃ a : ℝ, top p q = a :=
  max_real
    (max_real
      (max_real (max_real (max_real (h 0) (h 1)) (max_real (h 2) (h 3))) (max_real (max_real (h 4) (h 5)) (max_real (h 6) (h 7))))
      (max_real (max_real (max_real (h 8) (h 9)) (max_real (h 10) (h 11))) (max_real (max_real (h 12) (h 13)) (max_real (h 14) (h 15)))))
    (max_real (max_real (h 16) (h 17)) (h 18))

end Cert.KernelIdeal.Body

end
-- ==== Proof.TableChecks.lean ====
/- The interpolation tables of the two programs, compared word by word: the kernel's two matrices hold, in each row or
   column, the reference's two weights at the reference's two source indices, and zero elsewhere. -/
module

public import proofs.«01_k».proof.KernelIdeal
public import proofs.«01_k».proof.ReferenceIdeal

@[expose] public section

noncomputable section

namespace Cert.Tables

/-- A check of every number below a bound. -/
def upTo (f : Nat → Bool) (n : Nat) : Bool := Nat.rec true (fun k r => f k && r) n

theorem upTo_spec {f : Nat → Bool} {n : Nat} (h : upTo f n = true) : ∀ k < n, f k = true := by
  induction n with
  | zero => intro k hk; omega
  | succ n ih =>
    have h' : (f n && upTo f n) = true := h
    rw [Bool.and_eq_true] at h'
    intro k hk
    rcases Nat.lt_succ_iff_lt_or_eq.mp hk with hk | rfl
    · exact ih h'.2 k hk
    · exact h'.1

/-- The left and right source columns of a target column, and the words of their weights. -/
def colL (x : Nat) : Nat := (ReferenceIdeal.lit2t x).toNat
def colR (x : Nat) : Nat := (ReferenceIdeal.lit4t x).toNat
def colWL (x : Nat) : Nat := (ReferenceIdeal.lit3t x).toNat
def colWR (x : Nat) : Nat := (ReferenceIdeal.lit5t x).toNat
/-- The upper and lower source rows of a target row, and the words of their weights. -/
def rowU (y : Nat) : Nat := (ReferenceIdeal.lit0t y).toNat
def rowD (y : Nat) : Nat := (ReferenceIdeal.lit1t y).toNat
def rowWU (y : Nat) : Nat := (ReferenceIdeal.lit7t y).toNat
def rowWD (y : Nat) : Nat := (ReferenceIdeal.lit8t y).toNat

/-- The first of the 24 source rows that a band of 32 target rows draws on. -/
def first (k : Nat) : Nat := min (8 * (k - 1)) 104

/-- The width table's word at a source column and a target column. -/
def colCheck (j x : Nat) : Bool :=
  (KernelIdeal.lit1t (512 * j + x)).toNat == bif colL x == j then colWL x else bif colR x == j then colWR x else 0

/-- The height table's word at a target row and a place among the band's 24 source rows. -/
def rowCheck (y w : Nat) : Bool :=
  (KernelIdeal.lit0t (24 * y + w)).toNat ==
    bif rowU y == first (y / 32) + w then rowWU y else bif rowD y == first (y / 32) + w then rowWD y else 0

/-- The source columns and rows lie in the image and in the band, the weights lie between zero and one, and where the two
    sources are the same the second weight is zero. -/
def rangeCheck (x : Nat) : Bool :=
  Nat.blt (colL x) 128 && Nat.blt (colR x) 128 && Nat.ble (colWL x) 0x3F800000 && Nat.ble (colWR x) 0x3F800000 &&
  (!(colL x == colR x) || colWR x == 0) &&
  Nat.ble (first (x / 32)) (rowU x) && Nat.blt (rowU x) (first (x / 32) + 24) &&
  Nat.ble (first (x / 32)) (rowD x) && Nat.blt (rowD x) (first (x / 32) + 24) &&
  Nat.ble (rowWU x) 0x3F800000 && Nat.ble (rowWD x) 0x3F800000 && (!(rowU x == rowD x) || rowWD x == 0)

/-- The tables the reference holds twice or three times are the same tables. -/
def sameCheck (x : Nat) : Bool :=
  (ReferenceIdeal.lit6t x).toNat == colWL x && (ReferenceIdeal.lit9t x).toNat == rowU x &&
  (ReferenceIdeal.lit10t x).toNat == rowD x && (ReferenceIdeal.lit11t x).toNat == colL x &&
  (ReferenceIdeal.lit12t x).toNat == colWL x && (ReferenceIdeal.lit13t x).toNat == colR x &&
  (ReferenceIdeal.lit14t x).toNat == colWR x && (ReferenceIdeal.lit15t x).toNat == colWL x &&
  (ReferenceIdeal.lit16t x).toNat == rowWU x && (ReferenceIdeal.lit17t x).toNat == rowWD x

end Cert.Tables

end
-- ==== Proof.TableCols0.lean ====
/- The width table checked at source columns 0 to 31. -/
module

public import proofs.«01_k».proof.Proof.TableChecks

@[expose] public section

noncomputable section

namespace Cert.Tables

theorem col_from0 : upTo (fun j => upTo (colCheck (0 + j)) 512) 8 = true := by decide +kernel
theorem col_from8 : upTo (fun j => upTo (colCheck (8 + j)) 512) 8 = true := by decide +kernel
theorem col_from16 : upTo (fun j => upTo (colCheck (16 + j)) 512) 8 = true := by decide +kernel
theorem col_from24 : upTo (fun j => upTo (colCheck (24 + j)) 512) 8 = true := by decide +kernel

end Cert.Tables

end
-- ==== Proof.TableCols1.lean ====
/- The width table checked at source columns 32 to 63. -/
module

public import proofs.«01_k».proof.Proof.TableCols0

@[expose] public section

noncomputable section

namespace Cert.Tables

theorem col_from32 : upTo (fun j => upTo (colCheck (32 + j)) 512) 8 = true := by decide +kernel
theorem col_from40 : upTo (fun j => upTo (colCheck (40 + j)) 512) 8 = true := by decide +kernel
theorem col_from48 : upTo (fun j => upTo (colCheck (48 + j)) 512) 8 = true := by decide +kernel
theorem col_from56 : upTo (fun j => upTo (colCheck (56 + j)) 512) 8 = true := by decide +kernel

end Cert.Tables

end
-- ==== Proof.TableCols2.lean ====
/- The width table checked at source columns 64 to 95. -/
module

public import proofs.«01_k».proof.Proof.TableChecks

@[expose] public section

noncomputable section

namespace Cert.Tables

theorem col_from64 : upTo (fun j => upTo (colCheck (64 + j)) 512) 8 = true := by decide +kernel
theorem col_from72 : upTo (fun j => upTo (colCheck (72 + j)) 512) 8 = true := by decide +kernel
theorem col_from80 : upTo (fun j => upTo (colCheck (80 + j)) 512) 8 = true := by decide +kernel
theorem col_from88 : upTo (fun j => upTo (colCheck (88 + j)) 512) 8 = true := by decide +kernel

end Cert.Tables

end
-- ==== Proof.TableCols3.lean ====
/- The width table checked at source columns 96 to 127. -/
module

public import proofs.«01_k».proof.Proof.TableCols2

@[expose] public section

noncomputable section

namespace Cert.Tables

theorem col_from96 : upTo (fun j => upTo (colCheck (96 + j)) 512) 8 = true := by decide +kernel
theorem col_from104 : upTo (fun j => upTo (colCheck (104 + j)) 512) 8 = true := by decide +kernel
theorem col_from112 : upTo (fun j => upTo (colCheck (112 + j)) 512) 8 = true := by decide +kernel
theorem col_from120 : upTo (fun j => upTo (colCheck (120 + j)) 512) 8 = true := by decide +kernel

end Cert.Tables

end
-- ==== Proof.TableRows.lean ====
/- The height table and the reference's own tables checked. -/
module

public import proofs.«01_k».proof.Proof.TableChecks

@[expose] public section

noncomputable section

namespace Cert.Tables

theorem same_all : upTo sameCheck 512 = true := by decide +kernel
theorem range_all : upTo rangeCheck 512 = true := by decide +kernel
theorem row_from0 : upTo (fun y => upTo (rowCheck (0 + y)) 24) 64 = true := by decide +kernel
theorem row_from64 : upTo (fun y => upTo (rowCheck (64 + y)) 24) 64 = true := by decide +kernel
theorem row_from128 : upTo (fun y => upTo (rowCheck (128 + y)) 24) 64 = true := by decide +kernel
theorem row_from192 : upTo (fun y => upTo (rowCheck (192 + y)) 24) 64 = true := by decide +kernel
theorem row_from256 : upTo (fun y => upTo (rowCheck (256 + y)) 24) 64 = true := by decide +kernel
theorem row_from320 : upTo (fun y => upTo (rowCheck (320 + y)) 24) 64 = true := by decide +kernel
theorem row_from384 : upTo (fun y => upTo (rowCheck (384 + y)) 24) 64 = true := by decide +kernel
theorem row_from448 : upTo (fun y => upTo (rowCheck (448 + y)) 24) 64 = true := by decide +kernel

end Cert.Tables

end
-- ==== Proof.Tables.lean ====
/- The interpolation tables of the two programs, compared word by word. -/
module

public import proofs.«01_k».proof.Proof.TableCols1
public import proofs.«01_k».proof.Proof.TableCols3
public import proofs.«01_k».proof.Proof.TableRows
public import Mathlib.Tactic.IntervalCases

@[expose] public section

noncomputable section

namespace Cert.Tables

theorem col_all {j : Nat} (hj : j < 128) : upTo (colCheck j) 512 = true := by
  have h : j / 8 < 16 := by omega
  have hr : j % 8 < 8 := by omega
  rw [← Nat.div_add_mod j 8]
  generalize j % 8 = r at hr
  generalize j / 8 = q at h
  interval_cases q
  · exact upTo_spec col_from0 r hr
  · exact upTo_spec col_from8 r hr
  · exact upTo_spec col_from16 r hr
  · exact upTo_spec col_from24 r hr
  · exact upTo_spec col_from32 r hr
  · exact upTo_spec col_from40 r hr
  · exact upTo_spec col_from48 r hr
  · exact upTo_spec col_from56 r hr
  · exact upTo_spec col_from64 r hr
  · exact upTo_spec col_from72 r hr
  · exact upTo_spec col_from80 r hr
  · exact upTo_spec col_from88 r hr
  · exact upTo_spec col_from96 r hr
  · exact upTo_spec col_from104 r hr
  · exact upTo_spec col_from112 r hr
  · exact upTo_spec col_from120 r hr

theorem row_all {y : Nat} (hy : y < 512) : upTo (rowCheck y) 24 = true := by
  have h : y / 64 < 8 := by omega
  have hr : y % 64 < 64 := by omega
  rw [← Nat.div_add_mod y 64]
  generalize y % 64 = r at hr
  generalize y / 64 = q at h
  interval_cases q
  · exact upTo_spec row_from0 r hr
  · exact upTo_spec row_from64 r hr
  · exact upTo_spec row_from128 r hr
  · exact upTo_spec row_from192 r hr
  · exact upTo_spec row_from256 r hr
  · exact upTo_spec row_from320 r hr
  · exact upTo_spec row_from384 r hr
  · exact upTo_spec row_from448 r hr

/-- A word of the width table. -/
theorem col_word {j x : Nat} (hj : j < 128) (hx : x < 512) :
    (KernelIdeal.lit1t (512 * j + x)).toNat = if colL x = j then colWL x else if colR x = j then colWR x else 0 := by
  have h := upTo_spec (col_all hj) x hx
  simpa [colCheck, cond_eq_ite] using h

/-- A word of the height table. -/
theorem row_word {y w : Nat} (hy : y < 512) (hw : w < 24) :
    (KernelIdeal.lit0t (24 * y + w)).toNat
      = if rowU y = first (y / 32) + w then rowWU y else if rowD y = first (y / 32) + w then rowWD y else 0 := by
  have h := upTo_spec (row_all hy) w hw
  simpa [rowCheck, cond_eq_ite] using h

theorem range_spec {x : Nat} (hx : x < 512) :
    colL x < 128 ∧ colR x < 128 ∧ colWL x ≤ 0x3F800000 ∧ colWR x ≤ 0x3F800000 ∧ (colL x = colR x → colWR x = 0) ∧
    first (x / 32) ≤ rowU x ∧ rowU x < first (x / 32) + 24 ∧ first (x / 32) ≤ rowD x ∧ rowD x < first (x / 32) + 24 ∧
    rowWU x ≤ 0x3F800000 ∧ rowWD x ≤ 0x3F800000 ∧ (rowU x = rowD x → rowWD x = 0) := by
  have h := upTo_spec range_all x hx
  simp only [rangeCheck, Bool.and_eq_true, Nat.blt_eq, Nat.ble_eq, Bool.or_eq_true, Bool.not_eq_true', beq_iff_eq,
    beq_eq_false_iff_ne] at h
  obtain ⟨⟨⟨⟨⟨⟨⟨⟨⟨⟨⟨h1, h2⟩, h3⟩, h4⟩, h5⟩, h6⟩, h7⟩, h8⟩, h9⟩, h10⟩, h11⟩, h12⟩ := h
  exact ⟨h1, h2, h3, h4, fun e => h5.resolve_left (fun n => n e), h6, h7, h8, h9, h10, h11, fun e => h12.resolve_left (fun n => n e)⟩

theorem same_spec {x : Nat} (hx : x < 512) :
    ReferenceIdeal.lit6t x = ReferenceIdeal.lit3t x ∧ ReferenceIdeal.lit9t x = ReferenceIdeal.lit0t x ∧
    ReferenceIdeal.lit10t x = ReferenceIdeal.lit1t x ∧ ReferenceIdeal.lit11t x = ReferenceIdeal.lit2t x ∧
    ReferenceIdeal.lit12t x = ReferenceIdeal.lit3t x ∧ ReferenceIdeal.lit13t x = ReferenceIdeal.lit4t x ∧
    ReferenceIdeal.lit14t x = ReferenceIdeal.lit5t x ∧ ReferenceIdeal.lit15t x = ReferenceIdeal.lit3t x ∧
    ReferenceIdeal.lit16t x = ReferenceIdeal.lit7t x ∧ ReferenceIdeal.lit17t x = ReferenceIdeal.lit8t x := by
  have h := upTo_spec same_all x hx
  simp only [sameCheck, Bool.and_eq_true, beq_iff_eq] at h
  obtain ⟨⟨⟨⟨⟨⟨⟨⟨⟨h1, h2⟩, h3⟩, h4⟩, h5⟩, h6⟩, h7⟩, h8⟩, h9⟩, h10⟩ := h
  exact ⟨BitVec.eq_of_toNat_eq h1, BitVec.eq_of_toNat_eq h2, BitVec.eq_of_toNat_eq h3, BitVec.eq_of_toNat_eq h4,
    BitVec.eq_of_toNat_eq h5, BitVec.eq_of_toNat_eq h6, BitVec.eq_of_toNat_eq h7, BitVec.eq_of_toNat_eq h8,
    BitVec.eq_of_toNat_eq h9, BitVec.eq_of_toNat_eq h10⟩

end Cert.Tables

end
-- ==== Proof.Core.lean ====
/- The arithmetic of one pixel over the extended reals: the bilinear mix of four source entries, and the pixel's cross
   entropy taken in powers of two against the same in powers of e. -/
module

public import Idealize.ShloMosaic.Lib.Pointwise
public import Idealize.ShloMosaic.PureOps.Ideal.Laws

@[expose] public section

noncomputable section

namespace Cert.Core

open Idealize.ShloMosaic
open scoped BigOperators

/-- `1 / log 2` and the square of `log 2`. -/
abbrev l2e : EReal := (((Real.log 2)⁻¹ : ℝ) : EReal)
abbrev l2s : EReal := (((Real.log 2) * (Real.log 2) : ℝ) : EReal)
abbrev l2 : EReal := ((Real.log 2 : ℝ) : EReal)

theorem log2_pos : 0 < Real.log 2 := Real.log_pos (by norm_num)

/-- A sum against weights that vanish off two places. -/
theorem sum_two {n : Nat} (g W : Fin n → EReal) (p q : Fin n) (α β : EReal)
    (hW : ∀ j, W j = if p = j then α else if q = j then β else 0) (h : p = q → β = 0) :
    ∑ j, g j * W j = g p * α + g q * β := by
  by_cases e : p = q
  · subst e
    rw [h rfl, mul_zero, add_zero, Finset.sum_eq_single p]
    · rw [hW, if_pos rfl]
    · intro b _ hb
      rw [hW, if_neg (Ne.symm hb), if_neg (Ne.symm hb), mul_zero]
    · intro hp; exact absurd (Finset.mem_univ _) hp
  · rw [Finset.sum_eq_add (a := p) (b := q) e]
    · rw [hW p, hW q, if_pos rfl, if_neg e, if_pos rfl]
    · intro c _ hc
      rw [hW, if_neg (Ne.symm hc.1), if_neg (Ne.symm hc.2), mul_zero]
    · intro hp; exact absurd (Finset.mem_univ _) hp
    · intro hp; exact absurd (Finset.mem_univ _) hp

/-- The bilinear mix of four entries of a plane. -/
def mix (f : Fin 128 → Fin 128 → EReal) (U D L R : Fin 128) (hu hd wl wr : EReal) : EReal :=
  (f U L * wl + f U R * wr) * hu + (f D L * wl + f D R * wr) * hd

/-- The same over the reals. -/
def mixR (g : Fin 128 → Fin 128 → ℝ) (U D L R : Fin 128) (hu hd wl wr : ℝ) : ℝ :=
  (g U L * wl + g U R * wr) * hu + (g D L * wl + g D R * wr) * hd

theorem mix_coe (g : Fin 128 → Fin 128 → ℝ) (U D L R : Fin 128) (hu hd wl wr : ℝ) :
    mix (fun a b => (g a b : EReal)) U D L R hu hd wl wr = (mixR g U D L R hu hd wl wr : EReal) := by
  simp only [mix, mixR, EReal.coe_add, EReal.coe_mul]

theorem mixR_sub (g t : Fin 128 → Fin 128 → ℝ) (U D L R : Fin 128) (hu hd wl wr : ℝ) :
    mixR (fun a b => g a b - t a b) U D L R hu hd wl wr = mixR g U D L R hu hd wl wr - mixR t U D L R hu hd wl wr := by
  simp only [mixR]; ring

theorem distrib_coe (x y : EReal) {r : ℝ} (hr : 0 ≤ r) : (x + y) * (r : EReal) = x * r + y * r :=
  EReal.right_distrib_of_nonneg_of_ne_top (by exact_mod_cast hr) (EReal.coe_ne_top r) x y

/-- A nonnegative factor on the entries comes out of the mix. -/
theorem mix_scale (f : Fin 128 → Fin 128 → EReal) (U D L R : Fin 128) (hu hd wl wr : EReal) {r : ℝ} (hr : 0 ≤ r) :
    mix (fun a b => f a b * r) U D L R hu hd wl wr = mix f U D L R hu hd wl wr * r := by
  have e : ∀ a b w v h : EReal, (a * r * w + b * r * v) * h = (a * w + b * v) * h * r := fun a b w v h => by
    rw [mul_right_comm a, mul_right_comm b, ← distrib_coe _ _ hr, mul_right_comm]
  simp only [mix, e, ← distrib_coe _ _ hr]

/-- A nonnegative factor on the width weights comes out of the mix. -/
theorem mix_weights (f : Fin 128 → Fin 128 → EReal) (U D L R : Fin 128) (hu hd wl wr : EReal) {r : ℝ} (hr : 0 ≤ r) :
    mix f U D L R hu hd (wl * r) (wr * r) = mix f U D L R hu hd wl wr * r := by
  have e : ∀ a b w v h : EReal, (a * (w * r) + b * (v * r)) * h = (a * w + b * v) * h * r := fun a b w v h => by
    rw [← mul_assoc a, ← mul_assoc b, ← distrib_coe _ _ hr, mul_right_comm]
  simp only [mix, e, ← distrib_coe _ _ hr]

theorem exp2_coe (x : ℝ) : Ideal.exp2 ((x : EReal) * l2e) = ((Real.exp x : ℝ) : EReal) := by
  rw [← EReal.coe_mul]
  show ((Real.rpow 2 (x * (Real.log 2)⁻¹) : ℝ) : EReal) = _
  congr 1
  show (2 : ℝ) ^ (x * (Real.log 2)⁻¹) = _
  rw [Real.rpow_def_of_pos (by norm_num), mul_comm x, ← mul_assoc, mul_inv_cancel₀ log2_pos.ne', one_mul]

theorem log_coe {x : ℝ} (h : 0 < x) : Ideal.log (x : EReal) = ((Real.log x : ℝ) : EReal) := by
  show (if x ≤ 0 then (⊥ : EReal) else (Real.log x : EReal)) = _
  rw [if_neg (not_le.mpr h)]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem logsum (u : Fin 19 → ℝ) (μ : ℝ) :
    Real.log (∑ i, Real.exp (u i - μ)) = Real.log (∑ i, Real.exp (u i)) - μ := by
  have h : ∑ i, Real.exp (u i - μ) = (∑ i, Real.exp (u i)) * Real.exp (-μ) := by
    rw [Finset.sum_mul]
    exact Finset.sum_congr rfl fun i _ => by rw [← Real.exp_add, sub_eq_add_neg]
  have hp : 0 < ∑ i, Real.exp (u i) := Finset.sum_pos (fun i _ => Real.exp_pos _) ⟨0, Finset.mem_univ _⟩
  rw [h, Real.log_mul hp.ne' (Real.exp_pos _).ne', Real.log_exp, sub_eq_add_neg]

/-- One pixel: the loss in powers of two against a shift, times the confidence scaled by `log 2`, is the loss in powers
    of e against another shift, times the confidence. -/
theorem pixel (u : Fin 19 → ℝ) (μ M : ℝ) (l : Fin 19) (C : EReal) :
    (Ideal.log (∑ i, Ideal.exp2 (((u i - μ : ℝ) : EReal) * l2e)) * l2e - ((u l - μ : ℝ) : EReal) * l2e) * (C * l2s * l2e)
      = -((((u l : ℝ) : EReal) - (M : EReal)) - Ideal.log (∑ i, Ideal.exp (((u i : ℝ) : EReal) - (M : EReal)))) * C := by
  have hp : ∀ ν : ℝ, 0 < ∑ i, Real.exp (u i - ν) := fun ν =>
    Finset.sum_pos (fun i _ => Real.exp_pos _) ⟨0, Finset.mem_univ _⟩
  have e1 : ∑ i, Ideal.exp2 (((u i - μ : ℝ) : EReal) * l2e) = ((∑ i, Real.exp (u i - μ) : ℝ) : EReal) := by
    rw [coe_sum]; exact Finset.sum_congr rfl fun i _ => exp2_coe _
  have e2 : ∑ i, Ideal.exp (((u i : ℝ) : EReal) - (M : EReal)) = ((∑ i, Real.exp (u i - M) : ℝ) : EReal) := by
    rw [coe_sum]; exact Finset.sum_congr rfl fun i _ => by rw [← EReal.coe_sub]; rfl
  rw [e1, e2, log_coe (hp μ), log_coe (hp M), logsum, logsum]
  generalize Real.log (∑ i, Real.exp (u i)) = S
  rw [mul_assoc C, mul_comm C, ← mul_assoc]
  congr 1
  rw [← EReal.coe_mul, ← EReal.coe_mul, ← EReal.coe_mul, ← EReal.coe_sub, ← EReal.coe_mul, ← EReal.coe_sub, ← EReal.coe_sub,
    ← EReal.coe_neg]
  congr 1
  have h := log2_pos.ne'
  field_simp
  ring

end Cert.Core

end
-- ==== Proof.Weights.lean ====
/- The interpolation weights as extended reals, and the kernel's two tables in terms of the reference's. -/
module

public import proofs.«01_k».proof.Proof.Tables
public import proofs.«01_k».proof.Proof.Core

@[expose] public section

noncomputable section

namespace Cert.Tables

open Idealize.ShloMosaic

/-- A pattern of a value between zero and one is a real. -/
theorem word_real (w : BitVec 32) (h : w.toNat ≤ 0x3F800000) : ∃ r : ℝ, Ideal.ofBits .f32 w = (r : EReal) := by
  have e : (w.extractLsb' 23 8).toNat ≠ 2 ^ 8 - 1 := by
    simp only [BitVec.extractLsb'_toNat, Nat.shiftRight_eq_div_pow]
    omega
  show ∃ r : ℝ, Ideal.ieee 8 23 w = (r : EReal)
  unfold Ideal.ieee
  simp only [if_neg e]
  split
  · exact ⟨_, rfl⟩
  · exact ⟨_, rfl⟩

/-- The source columns and rows as indices. -/
def cl (x : Fin 512) : Fin 128 := ⟨colL x.val, (range_spec x.isLt).1⟩
def cr (x : Fin 512) : Fin 128 := ⟨colR x.val, (range_spec x.isLt).2.1⟩
theorem first_le (k : Nat) : first k ≤ 104 := Nat.min_le_right _ _
def ru (y : Fin 512) : Fin 128 := ⟨rowU y.val, by have := range_spec y.isLt; have := first_le (y.val / 32); omega⟩
def rd (y : Fin 512) : Fin 128 := ⟨rowD y.val, by have := range_spec y.isLt; have := first_le (y.val / 32); omega⟩

/-- The weights. -/
def wl (x : Fin 512) : EReal := Ideal.ofBits .f32 (ReferenceIdeal.lit3t x.val)
def wr (x : Fin 512) : EReal := Ideal.ofBits .f32 (ReferenceIdeal.lit5t x.val)
def hu (y : Fin 512) : EReal := Ideal.ofBits .f32 (ReferenceIdeal.lit7t y.val)
def hd (y : Fin 512) : EReal := Ideal.ofBits .f32 (ReferenceIdeal.lit8t y.val)

theorem weights_real : ∃ a b c d : Fin 512 → ℝ, (∀ x, wl x = a x) ∧ (∀ x, wr x = b x) ∧ (∀ x, hu x = c x) ∧ (∀ x, hd x = d x) := by
  have h1 : ∀ x : Fin 512, ∃ r : ℝ, wl x = r := fun x => word_real _ (range_spec x.isLt).2.2.1
  have h2 : ∀ x : Fin 512, ∃ r : ℝ, wr x = r := fun x => word_real _ (range_spec x.isLt).2.2.2.1
  have h3 : ∀ x : Fin 512, ∃ r : ℝ, hu x = r := fun x => word_real _ (range_spec x.isLt).2.2.2.2.2.2.2.2.2.1
  have h4 : ∀ x : Fin 512, ∃ r : ℝ, hd x = r := fun x => word_real _ (range_spec x.isLt).2.2.2.2.2.2.2.2.2.2.1
  choose a ha using h1
  choose b hb using h2
  choose c hc using h3
  choose d hd using h4
  exact ⟨a, b, c, d, ha, hb, hc, hd⟩

theorem zero_word {w : BitVec 32} (h : w.toNat = 0) : Ideal.ofBits .f32 w = 0 := by
  have e : w = 0#32 := BitVec.eq_of_toNat_eq h
  rw [e]
  exact Ideal.ofBits_zero_f32

/-- The width table at a source column and a target column. -/
theorem col_value (j : Fin 128) (x : Fin 512) :
    Ideal.ofBits .f32 (KernelIdeal.lit1t (512 * j.val + x.val)) = if cl x = j then wl x else if cr x = j then wr x else 0 := by
  have h := col_word j.isLt x.isLt
  simp only [cl, cr, Fin.ext_iff]
  split_ifs at h ⊢ with h1 h2
  · rw [BitVec.eq_of_toNat_eq h]; rfl
  · rw [BitVec.eq_of_toNat_eq h]; rfl
  · exact zero_word h

theorem col_same (x : Fin 512) (h : cl x = cr x) : wr x = 0 :=
  have e := Fin.ext_iff.mp h
  zero_word ((range_spec x.isLt).2.2.2.2.1 e)

/-- The places of a row's two sources among its band's 24. -/
def pu (y : Fin 512) : Fin 24 := ⟨rowU y.val - first (y.val / 32), by have := range_spec y.isLt; omega⟩
def pd (y : Fin 512) : Fin 24 := ⟨rowD y.val - first (y.val / 32), by have := range_spec y.isLt; omega⟩

theorem pu_val (y : Fin 512) : first (y.val / 32) + (pu y).val = (ru y).val := by
  have := range_spec y.isLt
  show _ + (rowU y.val - _) = rowU y.val
  omega
theorem pd_val (y : Fin 512) : first (y.val / 32) + (pd y).val = (rd y).val := by
  have := range_spec y.isLt
  show _ + (rowD y.val - _) = rowD y.val
  omega

/-- The height table at a target row and a place among its band's source rows. -/
theorem row_value (y : Fin 512) (t : Fin 24) :
    Ideal.ofBits .f32 (KernelIdeal.lit0t (24 * y.val + t.val)) = if pu y = t then hu y else if pd y = t then hd y else 0 := by
  have h := row_word y.isLt t.isLt
  have e1 : (pu y = t) ↔ rowU y.val = first (y.val / 32) + t.val := by
    have := pu_val y
    rw [Fin.ext_iff]
    show _ ↔ (ru y).val = _
    omega
  have e2 : (pd y = t) ↔ rowD y.val = first (y.val / 32) + t.val := by
    have := pd_val y
    rw [Fin.ext_iff]
    show _ ↔ (rd y).val = _
    omega
  simp only [e1, e2]
  split_ifs at h ⊢ with h1 h2
  · rw [BitVec.eq_of_toNat_eq h]; rfl
  · rw [BitVec.eq_of_toNat_eq h]; rfl
  · exact zero_word h

theorem row_same (y : Fin 512) (h : pu y = pd y) : hd y = 0 := by
  refine zero_word ((range_spec y.isLt).2.2.2.2.2.2.2.2.2.2.2 ?_)
  have h1 := pu_val y
  have h2 := pd_val y
  rw [h, h2] at h1
  exact h1.symm

/-- A plane interpolated at a target pixel. -/
def up (f : Fin 128 → Fin 128 → EReal) (y x : Fin 512) : EReal := Core.mix f (ru y) (rd y) (cl x) (cr x) (hu y) (hd y) (wl x) (wr x)

end Cert.Tables

end
-- ==== Proof.Point.lean ====
/- One grid point of the kernel over the extended reals: each weighted loss as the cross entropy of the interpolated logits
   times the interpolated confidence. -/
module

public import proofs.«01_k».proof.Proof.Eval
public import proofs.«01_k».proof.Proof.Weights

@[expose] public section

set_option maxRecDepth 16384

noncomputable section

namespace Cert.KernelIdeal.Body

open Cert.KernelIdeal Cert.KernelIdeal.Gen Idealize.ShloMosaic Cert.Tables
open scoped BigOperators

/-- A band's row among all. -/
def rowOf (k : Fin 16) (r : Fin 32) : Fin 512 := ⟨32 * k.val + r.val, by omega⟩

/-- The width table holds the reference's weights. -/
def IsWidth (wx : Vec Ideal S128x512 .f32) : Prop :=
  ∀ (j : Fin 128) (x : Fin 512), wx (ix2 j x) = Ideal.ofBits .f32 (KernelIdeal.lit1t (512 * j.val + x.val))

/-- A band of the height table holds the reference's weights. -/
def IsHeight (k : Fin 16) (wy : Vec Ideal S32x24 .f32) : Prop :=
  ∀ (r : Fin 32) (t : Fin 24), wy (ix2 r t) = Ideal.ofBits .f32 (KernelIdeal.lit0t (24 * (rowOf k r).val + t.val))

theorem start_first (k : Fin 16) (r : Fin 32) : start k.val = first ((rowOf k r).val / 32) := by
  have e : (rowOf k r).val / 32 = k.val := by
    show (32 * k.val + r.val) / 32 = k.val
    omega
  rw [e]; rfl

theorem start_lt (k : Fin 16) (t : Fin 24) : start k.val + t.val < 128 := by
  have : start k.val ≤ 104 := Nat.min_le_right _ _
  omega

theorem widen_scaled {wx : Vec Ideal S128x512 .f32} (hx : IsWidth wx) (f : FVec Ideal S128x128 .f32) (i : Fin 128) (x : Fin 512) :
    widen (scaled wx) f (ix2 i x) = f (ix2 i (cl x)) * (wl x * Core.l2e) + f (ix2 i (cr x)) * (wr x * Core.l2e) := by
  rw [widen_apply]
  refine Core.sum_two (fun j => f (ix2 i j)) (fun j => scaled wx (ix2 j x)) (cl x) (cr x) _ _ (fun j => ?_) (fun h => ?_)
  · show scaled wx (ix2 j x) = _
    rw [scaled_apply, hx, col_value]
    split_ifs
    · rfl
    · rfl
    · exact zero_mul _
  · rw [col_same x h, zero_mul]

/-- A band of an interpolated plane, with the width table divided by `log 2`. -/
theorem heighten_scaled {k : Fin 16} {wx : Vec Ideal S128x512 .f32} {wy : Vec Ideal S32x24 .f32} (hx : IsWidth wx) (hy : IsHeight k wy)
    (f : FVec Ideal S128x128 .f32) (r : Fin 32) (x : Fin 512) :
    heighten k wy (widen (scaled wx) f) (ix2 r x) = up (fun a b => f (ix2 a b)) (rowOf k r) x * Core.l2e := by
  have hp : ∀ (t : Fin 24) (s : Fin 128), first ((rowOf k r).val / 32) + t.val = s.val →
      (⟨start k.val + t.val, start_lt k t⟩ : Fin 128) = s := fun t s h =>
    Fin.ext ((congrArg (· + t.val) (start_first k r)).trans h)
  rw [heighten_apply k wy _ r x (start_lt k)]
  rw [Finset.sum_congr rfl fun t _ => mul_comm _ _]
  refine (Core.sum_two (fun t => widen (scaled wx) f (ix2 ⟨start k.val + t.val, start_lt k t⟩ x)) (fun t => wy (ix2 r t))
    (pu (rowOf k r)) (pd (rowOf k r)) (hu (rowOf k r)) (hd (rowOf k r)) (fun t => ?_) (row_same _)).trans ?_
  · show wy (ix2 r t) = _
    rw [hy, row_value]
  · show widen (scaled wx) f (ix2 ⟨start k.val + (pu (rowOf k r)).val, _⟩ x) * _
      + widen (scaled wx) f (ix2 ⟨start k.val + (pd (rowOf k r)).val, _⟩ x) * _ = _
    rw [hp _ _ (pu_val _), hp _ _ (pd_val _), widen_scaled hx, widen_scaled hx]
    exact Core.mix_weights (fun a b => f (ix2 a b)) _ _ _ _ _ _ _ _ (inv_nonneg.mpr Core.log2_pos.le)

/-- The interpolated confidence. -/
theorem conf_apply {k : Fin 16} {wx : Vec Ideal S128x512 .f32} {wy : Vec Ideal S32x24 .f32} (hx : IsWidth wx) (hy : IsHeight k wy)
    (conf : Vec Ideal S1x128x128 .f32) (r : Fin 32) (x : Fin 512) :
    heighten k wy (confW conf wx) (ix2 r x) = up (fun a b => conf (ix3 0 a b)) (rowOf k r) x * Core.l2s * Core.l2e := by
  have e : ∀ a b, mulf (F := Ideal) (shapeCast S128x128 conf shapeCasts_S1x128x128_S128x128)
      (broadcast S128x128 (Named.named κ "ln2sq" (φ := .f32) 0x3EF5FDF0#32)) (ix2 a b) = conf (ix3 0 a b) * Core.l2s := fun a b => by
    rw [← confPlane_apply conf a b, Core.l2s, ← named_l2s]; rfl
  refine (heighten_scaled hx hy _ r x).trans ?_
  simp only [e]
  rw [show up (fun a b => conf (ix3 0 a b) * Core.l2s) (rowOf k r) x = up (fun a b => conf (ix3 0 a b)) (rowOf k r) x * Core.l2s from
    Core.mix_scale _ _ _ _ _ _ _ _ _ (mul_nonneg Core.log2_pos.le Core.log2_pos.le)]

/-- A pixel's weighted loss, for real logits and a label among the 19. -/
theorem loss_apply {k : Fin 16} {wx : Vec Ideal S128x512 .f32} {wy : Vec Ideal S32x24 .f32} (hx : IsWidth wx) (hy : IsHeight k wy)
    (seg : Fin 19 → Vec Ideal S1x1x128x128 .f32) (conf : Vec Ideal S1x128x128 .f32) (gb lab : Vec Ideal S1x32x512 .i32)
    (hseg : ∀ i a b, ∃ v : ℝ, seg i (ix4 0 0 a b) = v) (r : Fin 32) (x : Fin 512) (l : Fin 19)
    (hl : lab (ix3 0 r x) = BitVec.ofNat 32 l.val) (M : ℝ) :
    loss k (chan seg wx) (confW conf wx) wy gb lab (ix2 r x)
      = -((up (fun a b => seg l (ix4 0 0 a b)) (rowOf k r) x - (M : EReal))
          - Ideal.log (∑ i : Fin 19, Ideal.exp (up (fun a b => seg i (ix4 0 0 a b)) (rowOf k r) x - (M : EReal))))
        * up (fun a b => conf (ix3 0 a b)) (rowOf k r) x * (if gb (ix3 0 r x) = 0#32 then (1 : EReal) else 0) := by
  choose g hg using hseg
  have ht : ∀ a b : Fin 128, ∃ v : ℝ, top (plane seg) (ix2 a b) = v := fun a b =>
    top_real (plane seg) (ix2 a b) fun i => ⟨g i a b, (plane_apply seg i a b).trans (hg i a b)⟩
  choose τ hτ using ht
  obtain ⟨wl', wr', hu', hd', ewl, ewr, ehu, ehd⟩ := weights_real
  have eu : ∀ f : Fin 128 → Fin 128 → ℝ, up (fun a b => ((f a b : ℝ) : EReal)) (rowOf k r) x
      = ((Core.mixR f (ru (rowOf k r)) (rd (rowOf k r)) (cl x) (cr x) (hu' (rowOf k r)) (hd' (rowOf k r)) (wl' x) (wr' x) : ℝ) : EReal) :=
    fun f => by rw [up, ewl, ewr, ehu, ehd, Core.mix_coe]
  have ec : ∀ i, heighten k wy (chan seg wx i) (ix2 r x)
      = ((Core.mixR (g i) (ru (rowOf k r)) (rd (rowOf k r)) (cl x) (cr x) (hu' (rowOf k r)) (hd' (rowOf k r)) (wl' x) (wr' x)
          - Core.mixR τ (ru (rowOf k r)) (rd (rowOf k r)) (cl x) (cr x) (hu' (rowOf k r)) (hd' (rowOf k r)) (wl' x) (wr' x) : ℝ) : EReal)
        * Core.l2e := fun i => by
    refine (heighten_scaled hx hy _ r x).trans ?_
    have e : ∀ a b, subf (plane seg i) (top (plane seg)) (ix2 a b) = ((g i a b - τ a b : ℝ) : EReal) := fun a b => by
      rw [EReal.coe_sub, ← hg, ← hτ, ← plane_apply seg i a b]; rfl
    simp only [e]
    rw [eu, Core.mixR_sub]
  have hlab : shapeCast S32x512 lab shapeCasts_S1x32x512_S32x512 (ix2 r x) = BitVec.ofNat 32 l.val := by
    rw [← hl]; pointwise
  have hv : ∀ i, up (fun a b => seg i (ix4 0 0 a b)) (rowOf k r) x
      = ((Core.mixR (g i) (ru (rowOf k r)) (rd (rowOf k r)) (cl x) (cr x) (hu' (rowOf k r)) (hd' (rowOf k r)) (wl' x) (wr' x) : ℝ) : EReal) :=
    fun i => by simp only [hg]; exact eu _
  have split : loss k (chan seg wx) (confW conf wx) wy gb lab (ix2 r x)
      = (Ideal.log (powSum (fun i => heighten k wy (chan seg wx i)) 18 (ix2 r x)) * Core.l2e
          - pickSum (shapeCast S32x512 lab shapeCasts_S1x32x512_S32x512) (fun i => heighten k wy (chan seg wx i)) 18 (ix2 r x))
        * heighten k wy (confW conf wx) (ix2 r x) * valid gb (ix2 r x) := by
    rw [Core.l2e, ← named_l2e]; rfl
  rw [split, valid_apply, conf_apply hx hy, pickSum_label _ _ _ l hlab, powSum_all]
  simp only [ec, hv]
  rw [Core.pixel _ _ M]

end Cert.KernelIdeal.Body

end
-- ==== Proof.Blocks.lean ====
/- A grid point's blocks read at coordinates: the arguments at the point's batch entry, and the two tables. -/
module

public import proofs.«01_k».proof.Proof.Accum
public import Idealize.ShloMosaic.Lib.Pipeline.ValueKit.Geometry
public import Idealize.ShloMosaic.Lib.Claim

@[expose] public section

set_option maxRecDepth 16384

noncomputable section

namespace Cert.KernelIdeal.Body

open Cert.KernelIdeal Cert.KernelIdeal.Gen Idealize.ShloMosaic Idealize.ShloMosaic.TcCoe Idealize.SL.Sem
open Idealize.ShloMosaic.Tactic

variable {F : FTy → Type} [FloatOps F] [Named F]
variable (m : (ℓ : Loc nD τ sig) → Buf (Elt F) ℓ)

/-- The point's entry in the batch. -/
abbrev entry (t : Fin cfg0.N) : Fin 4 := ⟨t.val, t.isLt⟩

theorem e0 : ∀ t : Fin cfg0.N, win0_0.index t = ![t.val, 0, 0, 0] := (by decide +kernel : ∀ t : Fin grid0.N, _)
theorem e1 : ∀ t : Fin cfg0.N, win0_1.index t = ![t.val, 0, 0] := (by decide +kernel : ∀ t : Fin grid0.N, _)
theorem e2 : ∀ t : Fin cfg0.N, win0_2.index t = ![t.val, 0, 0] := (by decide +kernel : ∀ t : Fin grid0.N, _)
theorem e3 : ∀ t : Fin cfg0.N, win0_3.index t = ![t.val, 0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)

theorem seg_read (c : Dev nD) (t : Fin cfg0.N) (i : Fin 19) (a b : Fin 128) :
    View.ld (iblk m c 0 t) (segRect i) (ix4 0 0 a b) = m ((c : Thread nD τ).loc main_arg1) (ix4 (entry t) i a b) := by
  rw [← V_main_arg1 m c]
  show iblk m c 0 t ((segRect i).emb (ix4 0 0 a b)) = _
  blk_simp [iblk, e0]
  refine congrArg (V m c main_arg1) ?_
  blk_ext [e0]

theorem conf_read (c : Dev nD) (t : Fin cfg0.N) (a b : Fin 128) :
    View.ld (iblk m c 1 t) (Rect.unit ![0, 0, 0] S1x128x128.size inb_S1x128x128_S1x128x128_0_0_0) (ix3 0 a b)
      = m ((c : Thread nD τ).loc main_arg4) (ix3 (entry t) a b) := by
  rw [← V_main_arg4 m c]
  show iblk m c 1 t ((Rect.unit ![0, 0, 0] S1x128x128.size inb_S1x128x128_S1x128x128_0_0_0).emb (ix3 0 a b)) = _
  blk_simp [iblk, e1]
  refine congrArg (V m c main_arg4) ?_
  blk_ext [e1]

theorem sem_read (c : Dev nD) (t : Fin cfg0.N) (k : Fin 16) (r : Fin 32) (x : Fin 512) :
    View.ld (iblk m c 3 t) (labRect k) (ix3 0 r x) = m ((c : Thread nD τ).loc main_arg7) (ix3 (entry t) ⟨32 * k.val + r.val, by omega⟩ x) := by
  rw [← V_main_arg7 m c]
  show iblk m c 3 t ((labRect k).emb (ix3 0 r x)) = _
  blk_simp [iblk, e3]
  refine congrArg (V m c main_arg7) ?_
  blk_ext [e3]

theorem gb_entry (c : Dev nD) : V m c main_v0 = extui 32 (m ((c : Thread nD τ).loc main_arg6)) natLt_1_32 := by
  show StableHlo.after hostOps0 (fun b => m (c, b)) (Proc.tc.devRef main_v0) = _
  entry_read
  rfl

theorem gb_read (c : Dev nD) (t : Fin cfg0.N) (k : Fin 16) (r : Fin 32) (x : Fin 512) :
    View.ld (iblk m c 2 t) (labRect k) (ix3 0 r x)
      = (m ((c : Thread nD τ).loc main_arg6) (ix3 (entry t) ⟨32 * k.val + r.val, by omega⟩ x)).setWidth 32 := by
  show iblk m c 2 t ((labRect k).emb (ix3 0 r x)) = _
  blk_simp [iblk, e2]
  show V m c main_v0 _ = _
  rw [gb_entry]
  show (m ((c : Thread nD τ).loc main_arg6) _).setWidth 32 = _
  refine congrArg (fun i => (m ((c : Thread nD τ).loc main_arg6) i).setWidth 32) ?_
  blk_ext [e2]

theorem wy_entry (c : Dev nD) : V m c main_cst = fun i => FloatOps.ofBits .f32 (lit0 (S512x24.rowMajor i)) := by
  show StableHlo.after hostOps0 (fun b => m (c, b)) (Proc.tc.devRef main_cst) = _
  after_results
  rfl

theorem wx_entry (c : Dev nD) : V m c main_cst_0 = fun i => FloatOps.ofBits .f32 (lit1 (S128x512.rowMajor i)) := by
  show StableHlo.after hostOps0 (fun b => m (c, b)) (Proc.tc.devRef main_cst_0) = _
  after_results
  rfl

theorem lit0_eq (n : Fin 12288) : lit0 n = lit0t n.val := by cases n; rfl
theorem lit1_eq (n : Fin 65536) : lit1 n = lit1t n.val := by cases n; rfl

theorem wy_read (c : Dev nD) (t : Fin cfg0.N) (k : Fin 16) (r : Fin 32) (s : Fin 24) :
    View.ld (iblk m c 4 t) (wyRect k) (ix2 r s) = FloatOps.ofBits .f32 (lit0t (24 * (32 * k.val + r.val) + s.val)) := by
  show iblk m c 4 t ((wyRect k).emb (ix2 r s)) = _
  blk_simp [iblk, e4]
  show V m c main_cst _ = _
  have e : (win0_4.blk t).view.emb ((wyRect k).emb (ix2 r s)) = ix2 ⟨32 * k.val + r.val, by omega⟩ s := by blk_ext [e4]
  rw [wy_entry, e]
  refine congrArg (FloatOps.ofBits .f32) ((lit0_eq _).trans (congrArg lit0t ?_))
  refine (Shape.rowMajor_val_two _).trans ?_
  show (32 * k.val + r.val) * 24 + s.val = _
  omega

theorem wx_read (c : Dev nD) (t : Fin cfg0.N) (j : Fin 128) (x : Fin 512) :
    View.ld (iblk m c 5 t) (Rect.unit ![0, 0] S128x512.size inb_S128x512_S128x512_0_0) (ix2 j x)
      = FloatOps.ofBits .f32 (lit1t (512 * j.val + x.val)) := by
  show iblk m c 5 t ((Rect.unit ![0, 0] S128x512.size inb_S128x512_S128x512_0_0).emb (ix2 j x)) = _
  blk_simp [iblk, e5]
  show V m c main_cst_0 _ = _
  have e : (win0_5.blk t).view.emb ((Rect.unit ![0, 0] S128x512.size inb_S128x512_S128x512_0_0).emb (ix2 j x)) = ix2 j x := by blk_ext [e5]
  rw [wx_entry, e]
  refine congrArg (FloatOps.ofBits .f32) ((lit1_eq _).trans (congrArg lit1t ?_))
  refine (Shape.rowMajor_val_two _).trans ?_
  show j.val * 512 + x.val = _
  omega

end Cert.KernelIdeal.Body

end
-- ==== Proof.Sums.lean ====
/- The kernel's two sums over the extended reals, as sums over the batch and the target's rows and columns. -/
module

public import proofs.«01_k».proof.Proof.Point
public import proofs.«01_k».proof.Proof.Blocks

@[expose] public section

set_option maxRecDepth 16384

noncomputable section

namespace Cert.Image

open Idealize.ShloMosaic
open scoped BigOperators

/-- The logits' and the confidence's interpolation at a target pixel. -/
def segUp (A : KernelIdeal.S4x19x128x128.Idx → EReal) (b : Fin 4) (i : Fin 19) (y x : Fin 512) : EReal :=
  Tables.up (fun p q => A (ix4 b i p q)) y x
def confUp (A : KernelIdeal.S4x128x128.Idx → EReal) (b : Fin 4) (y x : Fin 512) : EReal :=
  Tables.up (fun p q => A (ix3 b p q)) y x

/-- One where a pixel is no boundary, zero where it is. -/
def valid (B : KernelIdeal.S4x512x512.Idx → BitVec 1) (b : Fin 4) (y x : Fin 512) : EReal :=
  if B (ix3 b y x) = 0#1 then 1 else 0

/-- A pixel's cross entropy against a shift `M`. -/
def nll (A : KernelIdeal.S4x19x128x128.Idx → EReal) (b : Fin 4) (y x : Fin 512) (l : Fin 19) (M : EReal) : EReal :=
  -((segUp A b l y x - M) - Ideal.log (∑ i : Fin 19, Ideal.exp (segUp A b i y x - M)))

/-- A pixel's label. -/
def label (L : KernelIdeal.S4x512x512.Idx → BitVec 32) (b : Fin 4) (y x : Fin 512) : Fin 19 := Fin.ofNat 19 (L (ix3 b y x)).toNat

end Cert.Image

namespace Cert.KernelIdeal.Body

open Cert.KernelIdeal Cert.KernelIdeal.Gen Idealize.ShloMosaic Idealize.ShloMosaic.TcCoe Idealize.SL.Sem
open scoped BigOperators

variable (m : (ℓ : Loc nD τ sig) → Buf (Elt Ideal) ℓ)

theorem numSum_apply (ci : Fin 19 → FVec Ideal S128x512 .f32) (cci : FVec Ideal S128x512 .f32) (wy : Fin 16 → Vec Ideal S32x24 .f32)
    (gb lab : Fin 16 → Vec Ideal S1x32x512 .i32) :
    numSum ci cci wy gb lab 16 = ∑ k : Fin 16, ∑ r : Fin 32, ∑ x : Fin 512, loss k ci cci (wy k) (gb k) (lab k) (ix2 r x) := by
  have h : ∀ n, numSum ci cci wy gb lab n = ∑ i ∈ Finset.range n,
      total (loss (Fin.ofNat 16 i) ci cci (wy (Fin.ofNat 16 i)) (gb (Fin.ofNat 16 i)) (lab (Fin.ofNat 16 i))) := fun n => by
    induction n with
    | zero => rw [Finset.sum_range_zero]; exact Ideal.ofBits_zero_f32
    | succ n ih => rw [Finset.sum_range_succ, ← ih]; rfl
  rw [h, Finset.sum_range]
  exact Finset.sum_congr rfl fun k _ => by rw [Fin.ofNat_val_eq_self, total_apply]

theorem denSum_apply (gb : Fin 16 → Vec Ideal S1x32x512 .i32) :
    denSum gb 16 = ∑ k : Fin 16, ∑ r : Fin 32, ∑ x : Fin 512, valid (gb k) (ix2 r x) := by
  have h : ∀ n, denSum gb n = ∑ i ∈ Finset.range n, total (valid (gb (Fin.ofNat 16 i))) := fun n => by
    induction n with
    | zero => rw [Finset.sum_range_zero]; exact Ideal.ofBits_zero_f32
    | succ n ih => rw [Finset.sum_range_succ, ← ih]; rfl
  rw [h, Finset.sum_range]
  exact Finset.sum_congr rfl fun k _ => by rw [Fin.ofNat_val_eq_self, total_apply]

/-- The bands' rows are the target's rows. -/
theorem sum_rows (f : Fin 512 → EReal) : ∑ k : Fin 16, ∑ r : Fin 32, f (rowOf k r) = ∑ y, f y := by
  rw [← Fintype.sum_prod_type' (f := fun (k : Fin 16) (r : Fin 32) => f (rowOf k r))]
  refine Fintype.sum_equiv (finProdFinEquiv : Fin 16 × Fin 32 ≃ Fin (16 * 32)) _ (fun y => f y) fun p => congrArg f (Fin.ext ?_)
  show 32 * p.1.val + p.2.val = p.2.val + 32 * p.1.val
  exact Nat.add_comm _ _

theorem width_table (c : Dev nD) (t : Fin cfg0.N) :
    IsWidth (View.ld (iblk m c 5 t) (Rect.unit ![0, 0] S128x512.size inb_S128x512_S128x512_0_0)) := fun j x => wx_read m c t j x

theorem height_table (c : Dev nD) (t : Fin cfg0.N) (k : Fin 16) : IsHeight k (View.ld (iblk m c 4 t) (wyRect k)) :=
  fun r s => wy_read m c t k r s

theorem valid_read (c : Dev nD) (t : Fin cfg0.N) (k : Fin 16) (r : Fin 32) (x : Fin 512) :
    (if View.ld (iblk m c 2 t) (labRect k) (ix3 0 r x) = 0#32 then (1 : EReal) else 0)
      = Image.valid (m ((c : Thread nD τ).loc main_arg6)) (entry t) (rowOf k r) x := by
  rw [gb_read]
  have e : ∀ v : BitVec 1, (if v.setWidth 32 = 0#32 then (1 : EReal) else 0) = if v = 0#1 then 1 else 0 := fun v => by
    have h : v = 0#1 ∨ v = 1#1 := by revert v; decide
    rcases h with rfl | rfl
    · rw [if_pos (by decide), if_pos (by decide)]
    · rw [if_neg (by decide), if_neg (by decide)]
  exact e _

/-- A point's count of valid pixels. -/
theorem den_eq (c : Dev nD) (t : Fin cfg0.N) :
    den m c t = ∑ y : Fin 512, ∑ x : Fin 512, Image.valid (m ((c : Thread nD τ).loc main_arg6)) (entry t) y x := by
  refine (denSum_apply _).trans ?_
  rw [← sum_rows]
  refine Finset.sum_congr rfl fun k _ => Finset.sum_congr rfl fun r _ => Finset.sum_congr rfl fun x _ => ?_
  rw [valid_apply]
  exact valid_read m c t k r x

/-- A point's sum of weighted losses. -/
theorem num_eq (c : Dev nD) (t : Fin cfg0.N) (M : Fin 4 → Fin 512 → Fin 512 → ℝ)
    (hseg : ∀ i, ∃ v : ℝ, m ((c : Thread nD τ).loc main_arg1) i = (v : EReal))
    (hsem : ∀ i : S4x512x512.Idx, (m ((c : Thread nD τ).loc main_arg7) i : BitVec 32).toNat < 19) :
    num m c t = ∑ y : Fin 512, ∑ x : Fin 512,
      Image.nll (m ((c : Thread nD τ).loc main_arg1)) (entry t) y x (Image.label (m ((c : Thread nD τ).loc main_arg7)) (entry t) y x)
          (M (entry t) y x)
        * Image.confUp (m ((c : Thread nD τ).loc main_arg4)) (entry t) y x
        * Image.valid (m ((c : Thread nD τ).loc main_arg6)) (entry t) y x := by
  refine (numSum_apply _ _ _ _ _).trans ?_
  rw [← sum_rows]
  refine Finset.sum_congr rfl fun k _ => Finset.sum_congr rfl fun r _ => Finset.sum_congr rfl fun x _ => ?_
  refine (loss_apply (width_table m c t) (height_table m c t k) (fun i => View.ld (iblk m c 0 t) (segRect i)) _ _ _
    (fun i a b => by rw [seg_read]; exact hseg _) r x (Image.label (m ((c : Thread nD τ).loc main_arg7)) (entry t) (rowOf k r) x) ?_
    (M (entry t) (rowOf k r) x)).trans ?_
  · rw [sem_read]
    refine BitVec.eq_of_toNat_eq ?_
    have h := hsem (ix3 (entry t) (rowOf k r) x)
    show (m ((c : Thread nD τ).loc main_arg7) (ix3 (entry t) (rowOf k r) x) : BitVec 32).toNat
      = (BitVec.ofNat 32 ((m ((c : Thread nD τ).loc main_arg7) (ix3 (entry t) (rowOf k r) x) : BitVec 32).toNat % 19)).toNat
    rw [Nat.mod_eq_of_lt h, BitVec.toNat_ofNat]
    exact (Nat.mod_eq_of_lt (by omega)).symm
  · rw [valid_read]
    refine congrArg (· * _) (congrArg₂ (· * ·) ?_ ?_)
    · simp only [seg_read]; rfl
    · exact congrArg (fun f => Tables.up f (rowOf k r) x) (funext fun a => funext fun b => conf_read m c t a b)

/-- The whole count, and the whole sum. -/
theorem denAll_eq (c : Dev nD) :
    denAll m c = ∑ b : Fin 4, ∑ y : Fin 512, ∑ x : Fin 512, Image.valid (m ((c : Thread nD τ).loc main_arg6)) b y x := by
  rw [Fin.sum_univ_four]
  show den m c ⟨0, _⟩ + den m c ⟨1, _⟩ + den m c ⟨2, _⟩ + den m c ⟨3, _⟩ = _
  rw [den_eq, den_eq, den_eq, den_eq]
  rfl

theorem numAll_eq (c : Dev nD) (M : Fin 4 → Fin 512 → Fin 512 → ℝ)
    (hseg : ∀ i, ∃ v : ℝ, m ((c : Thread nD τ).loc main_arg1) i = (v : EReal))
    (hsem : ∀ i : S4x512x512.Idx, (m ((c : Thread nD τ).loc main_arg7) i : BitVec 32).toNat < 19) :
    numAll m c = ∑ b : Fin 4, ∑ y : Fin 512, ∑ x : Fin 512,
      Image.nll (m ((c : Thread nD τ).loc main_arg1)) b y x (Image.label (m ((c : Thread nD τ).loc main_arg7)) b y x) (M b y x)
        * Image.confUp (m ((c : Thread nD τ).loc main_arg4)) b y x * Image.valid (m ((c : Thread nD τ).loc main_arg6)) b y x := by
  rw [Fin.sum_univ_four]
  show num m c ⟨0, _⟩ + num m c ⟨1, _⟩ + num m c ⟨2, _⟩ + num m c ⟨3, _⟩ = _
  rw [num_eq m c _ M hseg hsem, num_eq m c _ M hseg hsem, num_eq m c _ M hseg hsem, num_eq m c _ M hseg hsem]
  rfl

end Cert.KernelIdeal.Body

end
-- ==== Proof.RefGather.lean ====
/- The reference's gathers read at an index: a row or a column named by a table of words, and the logit of a label. -/
module

public import proofs.«01_k».proof.Proof.Gen.ReferenceIdeal.Run
public import Idealize.ShloMosaic.Lib.Pointwise

@[expose] public section

noncomputable section

namespace Cert.ReferenceIdeal.Gathers

open Cert.ReferenceIdeal Cert.ReferenceIdeal.Gen Idealize.ShloMosaic

variable {α : Type}

theorem rows19 (x : S4x19x128x128.Idx → α) (idx : IVec S512x1 32) (b : Fin 4) (c : Fin 19) (y : Fin 512) (j : Fin 128) :
    Host.gather gather_S4x19x128x128_S512x1_S4x19x512x128_013_2_n_n_2_1_4191128 x idx (ix4 b c y j)
      = x (ix4 b c ⟨min (idx (ix2 y 0)).toInt.toNat 127, by omega⟩ j) := by
  refine congrArg x ?_
  funext a; apply Fin.ext
  match a with
  | ⟨0, _⟩ => exact Nat.zero_add _
  | ⟨1, _⟩ => exact Nat.zero_add _
  | ⟨2, _⟩ =>
    have e : gather_S4x19x128x128_S512x1_S4x19x512x128_013_2_n_n_2_1_4191128.siIdx (ix4 b c y j) ⟨0, by decide⟩ = ix2 y 0 := by
      funext a; match a with
      | ⟨0, _⟩ => rfl
      | ⟨1, _⟩ => rfl
    show min (idx (gather_S4x19x128x128_S512x1_S4x19x512x128_013_2_n_n_2_1_4191128.siIdx (ix4 b c y j) ⟨0, _⟩)).toInt.toNat 127 = _
    rw [e]; rfl
  | ⟨3, _⟩ => exact Nat.zero_add _

theorem cols19 (x : S4x19x512x128.Idx → α) (idx : IVec S512x1 32) (b : Fin 4) (c : Fin 19) (y : Fin 512) (j : Fin 512) :
    Host.gather gather_S4x19x512x128_S512x1_S4x19x512x512_012_3_n_n_3_1_4195121 x idx (ix4 b c y j)
      = x (ix4 b c y ⟨min (idx (ix2 j 0)).toInt.toNat 127, by omega⟩) := by
  refine congrArg x ?_
  funext a; apply Fin.ext
  match a with
  | ⟨0, _⟩ => exact Nat.zero_add _
  | ⟨1, _⟩ => exact Nat.zero_add _
  | ⟨2, _⟩ => exact Nat.zero_add _
  | ⟨3, _⟩ =>
    have e : gather_S4x19x512x128_S512x1_S4x19x512x512_012_3_n_n_3_1_4195121.siIdx (ix4 b c y j) ⟨0, by decide⟩ = ix2 j 0 := by
      funext a; match a with
      | ⟨0, _⟩ => rfl
      | ⟨1, _⟩ => rfl
    show min (idx (gather_S4x19x512x128_S512x1_S4x19x512x512_012_3_n_n_3_1_4195121.siIdx (ix4 b c y j) ⟨0, _⟩)).toInt.toNat 127 = _
    rw [e]; rfl

theorem rows1 (x : S4x1x128x128.Idx → α) (idx : IVec S512x1 32) (b : Fin 4) (y : Fin 512) (j : Fin 128) :
    Host.gather gather_S4x1x128x128_S512x1_S4x1x512x128_013_2_n_n_2_1_411128 x idx (ix4 b 0 y j)
      = x (ix4 b 0 ⟨min (idx (ix2 y 0)).toInt.toNat 127, by omega⟩ j) := by
  refine congrArg x ?_
  funext a; apply Fin.ext
  match a with
  | ⟨0, _⟩ => exact Nat.zero_add _
  | ⟨1, _⟩ => exact Nat.zero_add _
  | ⟨2, _⟩ =>
    have e : gather_S4x1x128x128_S512x1_S4x1x512x128_013_2_n_n_2_1_411128.siIdx (ix4 b 0 y j) ⟨0, by decide⟩ = ix2 y 0 := by
      funext a; match a with
      | ⟨0, _⟩ => rfl
      | ⟨1, _⟩ => rfl
    show min (idx (gather_S4x1x128x128_S512x1_S4x1x512x128_013_2_n_n_2_1_411128.siIdx (ix4 b 0 y j) ⟨0, _⟩)).toInt.toNat 127 = _
    rw [e]; rfl
  | ⟨3, _⟩ => exact Nat.zero_add _

theorem cols1 (x : S4x1x512x128.Idx → α) (idx : IVec S512x1 32) (b : Fin 4) (y : Fin 512) (j : Fin 512) :
    Host.gather gather_S4x1x512x128_S512x1_S4x1x512x512_012_3_n_n_3_1_415121 x idx (ix4 b 0 y j)
      = x (ix4 b 0 y ⟨min (idx (ix2 j 0)).toInt.toNat 127, by omega⟩) := by
  refine congrArg x ?_
  funext a; apply Fin.ext
  match a with
  | ⟨0, _⟩ => exact Nat.zero_add _
  | ⟨1, _⟩ => exact Nat.zero_add _
  | ⟨2, _⟩ => exact Nat.zero_add _
  | ⟨3, _⟩ =>
    have e : gather_S4x1x512x128_S512x1_S4x1x512x512_012_3_n_n_3_1_415121.siIdx (ix4 b 0 y j) ⟨0, by decide⟩ = ix2 j 0 := by
      funext a; match a with
      | ⟨0, _⟩ => rfl
      | ⟨1, _⟩ => rfl
    show min (idx (gather_S4x1x512x128_S512x1_S4x1x512x512_012_3_n_n_3_1_415121.siIdx (ix4 b 0 y j) ⟨0, _⟩)).toInt.toNat 127 = _
    rw [e]; rfl

theorem label (x : S4x19x512x512.Idx → α) (idx : IVec S4x1x512x512x1 32) (b : Fin 4) (y : Fin 512) (j : Fin 512) :
    Host.gather gather_S4x19x512x512_S4x1x512x512x1_S4x1x512x512_n_1_023_023_1_4_1111 x idx (ix4 b 0 y j)
      = x (ix4 b ⟨min (idx (ix5 b 0 y j 0)).toInt.toNat 18, by omega⟩ y j) := by
  refine congrArg x ?_
  funext a; apply Fin.ext
  match a with
  | ⟨0, _⟩ => exact Nat.zero_add _
  | ⟨1, _⟩ =>
    have e : gather_S4x19x512x512_S4x1x512x512x1_S4x1x512x512_n_1_023_023_1_4_1111.siIdx (ix4 b 0 y j) ⟨0, by decide⟩ = ix5 b 0 y j 0 := by
      funext a; match a with
      | ⟨0, _⟩ => rfl
      | ⟨1, _⟩ => rfl
      | ⟨2, _⟩ => rfl
      | ⟨3, _⟩ => rfl
      | ⟨4, _⟩ => rfl
    show min (idx (gather_S4x19x512x512_S4x1x512x512x1_S4x1x512x512_n_1_023_023_1_4_1111.siIdx (ix4 b 0 y j) ⟨0, _⟩)).toInt.toNat 18 = _
    rw [e]; rfl
  | ⟨2, _⟩ => exact Nat.zero_add _
  | ⟨3, _⟩ => exact Nat.zero_add _

end Cert.ReferenceIdeal.Gathers

end
-- ==== Proof.RefUp.lean ====
/- The reference's two interpolated images read at a target pixel: the bilinear mix of four source entries. -/
module

public import proofs.«01_k».proof.Proof.RefGather
public import proofs.«01_k».proof.Proof.Weights

@[expose] public section

set_option maxRecDepth 16384

noncomputable section

namespace Cert.ReferenceIdeal.Gathers

open Cert.ReferenceIdeal Cert.ReferenceIdeal.Gen Cert.ReferenceIdeal.Value Idealize.ShloMosaic Idealize.ShloMosaic.TcCoe Idealize.ShloMosaic.StableHlo Cert.Tables

/-- A table of source rows or columns as the gathers take it. -/
def indices (c : IVec S512 32) : IVec S512x1 32 :=
  broadcastInDim S512x1 ![0] bcast_S512_S512x1_0
    (select (constantI S512 1 0#1) (addi c (broadcastInDim S512 ![] bcast_S_S512 (constantI S_ 32 128#32))) c)

theorem indices_apply (c : IVec S512 32) (y : Fin 512) : indices c (ix2 y 0) = c (ix1 y) := by
  pointwise [indices]

/-- A table of words read at a place. -/
theorem word_at (f : Fin 512 → BitVec 32) (g : Nat → BitVec 32) (h : ∀ n, f n = g n.val) (y : Fin 512) :
    f (S512.rowMajor (ix1 y)) = g y.val := (h _).trans (congrArg g (Shape.rowMajor_val_one _))

/-- A source index below 128 is left as it is. -/
theorem clamp {w : BitVec 32} {i : Fin 128} (h : w.toNat = i.val) (p : min w.toInt.toNat 127 < 128) :
    (⟨min w.toInt.toNat 127, p⟩ : Fin 128) = i := by
  refine Fin.ext ?_
  have e : w.toInt = (w.toNat : Int) := BitVec.toInt_eq_toNat_of_lt (by have := i.isLt; omega)
  show min w.toInt.toNat 127 = i.val
  rw [e, Int.toNat_natCast, h]
  have := i.isLt
  omega

section nineteen
variable (A : FVec Ideal S4x19x128x128 .f32)

def rows (c : IVec S512 32) : FVec Ideal S4x19x512x128 .f32 :=
  Host.gather gather_S4x19x128x128_S512x1_S4x19x512x128_013_2_n_n_2_1_4191128 A (indices c)
def cols (B : FVec Ideal S4x19x512x128 .f32) (c : IVec S512 32) : FVec Ideal S4x19x512x512 .f32 :=
  Host.gather gather_S4x19x512x128_S512x1_S4x19x512x512_012_3_n_n_3_1_4195121 B (indices c)
def wcol (w : FVec Ideal S512 .f32) : FVec Ideal S4x19x512x512 .f32 :=
  broadcastInDim S4x19x512x512 ![0, 1, 2, 3] bcast_S1x1x1x512_S4x19x512x512_0_1_2_3 (broadcastInDim S1x1x1x512 ![3] bcast_S512_S1x1x1x512_3 w)
def wrow (w : FVec Ideal S512 .f32) : FVec Ideal S4x19x512x512 .f32 :=
  broadcastInDim S4x19x512x512 ![0, 1, 2, 3] bcast_S1x1x512x1_S4x19x512x512_0_1_2_3 (broadcastInDim S1x1x512x1 ![2] bcast_S512_S1x1x512x1_2 w)

theorem wcol_apply (w : FVec Ideal S512 .f32) (b : Fin 4) (i : Fin 19) (y x : Fin 512) : wcol w (ix4 b i y x) = w (ix1 x) := by
  pointwise [wcol]
theorem wrow_apply (w : FVec Ideal S512 .f32) (b : Fin 4) (i : Fin 19) (y x : Fin 512) : wrow w (ix4 b i y x) = w (ix1 y) := by
  pointwise [wrow]

theorem source {c d : IVec S512 32} {y x : Fin 512} {r s : Fin 128} (hc : (c (ix1 y)).toNat = r.val) (hd : (d (ix1 x)).toNat = s.val)
    (b : Fin 4) (i : Fin 19) : cols (rows A c) d (ix4 b i y x) = A (ix4 b i r s) := by
  refine (cols19 (rows A c) (indices d) b i y x).trans ?_
  refine (rows19 A (indices c) b i y _).trans ?_
  simp only [indices_apply]
  rw [clamp hc, clamp hd]

end nineteen

section one
variable (A : FVec Ideal S4x1x128x128 .f32)

def rowsC (c : IVec S512 32) : FVec Ideal S4x1x512x128 .f32 :=
  Host.gather gather_S4x1x128x128_S512x1_S4x1x512x128_013_2_n_n_2_1_411128 A (indices c)
def colsC (B : FVec Ideal S4x1x512x128 .f32) (c : IVec S512 32) : FVec Ideal S4x1x512x512 .f32 :=
  Host.gather gather_S4x1x512x128_S512x1_S4x1x512x512_012_3_n_n_3_1_415121 B (indices c)
def wcolC (w : FVec Ideal S512 .f32) : FVec Ideal S4x1x512x512 .f32 :=
  broadcastInDim S4x1x512x512 ![0, 1, 2, 3] bcast_S1x1x1x512_S4x1x512x512_0_1_2_3 (broadcastInDim S1x1x1x512 ![3] bcast_S512_S1x1x1x512_3 w)
def wrowC (w : FVec Ideal S512 .f32) : FVec Ideal S4x1x512x512 .f32 :=
  broadcastInDim S4x1x512x512 ![0, 1, 2, 3] bcast_S1x1x512x1_S4x1x512x512_0_1_2_3 (broadcastInDim S1x1x512x1 ![2] bcast_S512_S1x1x512x1_2 w)

theorem wcolC_apply (w : FVec Ideal S512 .f32) (b : Fin 4) (y x : Fin 512) : wcolC w (ix4 b 0 y x) = w (ix1 x) := by
  pointwise [wcolC]
theorem wrowC_apply (w : FVec Ideal S512 .f32) (b : Fin 4) (y x : Fin 512) : wrowC w (ix4 b 0 y x) = w (ix1 y) := by
  pointwise [wrowC]

theorem sourceC {c d : IVec S512 32} {y x : Fin 512} {r s : Fin 128} (hc : (c (ix1 y)).toNat = r.val) (hd : (d (ix1 x)).toNat = s.val)
    (b : Fin 4) : colsC (rowsC A c) d (ix4 b 0 y x) = A (ix4 b 0 r s) := by
  refine (cols1 (rowsC A c) (indices d) b y x).trans ?_
  refine (rows1 A (indices c) b y _).trans ?_
  simp only [indices_apply]
  rw [clamp hc, clamp hd]

end one

/-! ## The tables -/

/-- A table of words, and a table of weights. -/
def words (f : Fin 512 → BitVec 32) : IVec S512 32 := fun i => f (S512.rowMajor i)
def weights (f : Fin 512 → BitVec 32) : FVec Ideal S512 .f32 := fun i => FloatOps.ofBits .f32 (f (S512.rowMajor i))

theorem words_at {f : Fin 512 → BitVec 32} {g h : Nat → BitVec 32} (e : ∀ n, f n = g n.val) (y : Fin 512) (k : g y.val = h y.val) :
    (words f (ix1 y)).toNat = (h y.val).toNat := congrArg BitVec.toNat ((word_at f g e y).trans k)

theorem weights_at {f : Fin 512 → BitVec 32} {g h : Nat → BitVec 32} (e : ∀ n, f n = g n.val) (y : Fin 512) (k : g y.val = h y.val) :
    weights f (ix1 y) = Ideal.ofBits .f32 (h y.val) := congrArg (Ideal.ofBits .f32) ((word_at f g e y).trans k)

/-! ## The logits -/

def segImage (A : FVec Ideal S4x19x128x128 .f32) (c c1 c3 c5 : IVec S512 32) (w3 w5 w6 w7 w8 : FVec Ideal S512 .f32) :
    FVec Ideal S4x19x512x512 .f32 :=
  addf (mulf (addf (mulf (cols (rows A c) c3) (wcol w3)) (mulf (cols (rows A c) c5) (wcol w5))) (wrow w7))
    (mulf (addf (mulf (cols (rows A c1) c3) (wcol w6)) (mulf (cols (rows A c1) c5) (wcol w5))) (wrow w8))

theorem segImage_apply (A : FVec Ideal S4x19x128x128 .f32) (b : Fin 4) (i : Fin 19) (y x : Fin 512) :
    segImage A (words lit0) (words lit1) (words lit2) (words lit4) (weights lit3) (weights lit5) (weights lit6) (weights lit7) (weights lit8)
      (ix4 b i y x) = up (fun p q => A (ix4 b i p q)) y x := by
  have s := same_spec x.isLt
  have k0 : (words lit0 (ix1 y)).toNat = (ru y).val := words_at (h := lit0t) (fun n => by cases n; rfl) y rfl
  have k1 : (words lit1 (ix1 y)).toNat = (rd y).val := words_at (h := lit1t) (fun n => by cases n; rfl) y rfl
  have k2 : (words lit2 (ix1 x)).toNat = (cl x).val := words_at (h := lit2t) (fun n => by cases n; rfl) x rfl
  have k4 : (words lit4 (ix1 x)).toNat = (cr x).val := words_at (h := lit4t) (fun n => by cases n; rfl) x rfl
  have e3 : weights lit3 (ix1 x) = wl x := weights_at (h := lit3t) (fun n => by cases n; rfl) x rfl
  have e5 : weights lit5 (ix1 x) = wr x := weights_at (h := lit5t) (fun n => by cases n; rfl) x rfl
  have e6 : weights lit6 (ix1 x) = wl x := weights_at (g := lit6t) (h := lit3t) (fun n => by cases n; rfl) x s.1
  have e7 : weights lit7 (ix1 y) = hu y := weights_at (h := lit7t) (fun n => by cases n; rfl) y rfl
  have e8 : weights lit8 (ix1 y) = hd y := weights_at (h := lit8t) (fun n => by cases n; rfl) y rfl
  have split : ∀ (c c1 c3 c5 : IVec S512 32) (w3 w5 w6 w7 w8 : FVec Ideal S512 .f32), segImage A c c1 c3 c5 w3 w5 w6 w7 w8 (ix4 b i y x)
      = (cols (rows A c) c3 (ix4 b i y x) * wcol w3 (ix4 b i y x) + cols (rows A c) c5 (ix4 b i y x) * wcol w5 (ix4 b i y x))
          * wrow w7 (ix4 b i y x)
        + (cols (rows A c1) c3 (ix4 b i y x) * wcol w6 (ix4 b i y x) + cols (rows A c1) c5 (ix4 b i y x) * wcol w5 (ix4 b i y x))
          * wrow w8 (ix4 b i y x) := fun _ _ _ _ _ _ _ _ _ => rfl
  rw [split, source A k0 k2, source A k0 k4, source A k1 k2, source A k1 k4]
  simp only [wcol_apply, wrow_apply, e3, e5, e6, e7, e8]
  rfl

theorem v52_eq (V0 : Valuation τ sig (Elt Ideal)) :
    res_main_v52 V0 = segImage (V0 (Proc.devRef .tc main_arg1)) (words lit0) (words lit1) (words lit2) (words lit4) (weights lit3)
      (weights lit5) (weights lit6) (weights lit7) (weights lit8) := by
  with_unfolding_all rfl

/-! ## The confidence -/

def confImage (A : FVec Ideal S4x1x128x128 .f32) (c c1 c3 c5 : IVec S512 32) (w3 w5 w6 w7 w8 : FVec Ideal S512 .f32) :
    FVec Ideal S4x1x512x512 .f32 :=
  addf (mulf (addf (mulf (colsC (rowsC A c) c3) (wcolC w3)) (mulf (colsC (rowsC A c) c5) (wcolC w5))) (wrowC w7))
    (mulf (addf (mulf (colsC (rowsC A c1) c3) (wcolC w6)) (mulf (colsC (rowsC A c1) c5) (wcolC w5))) (wrowC w8))

theorem confImage_apply (A : FVec Ideal S4x1x128x128 .f32) (b : Fin 4) (y x : Fin 512) :
    confImage A (words lit9) (words lit10) (words lit11) (words lit13) (weights lit12) (weights lit14) (weights lit15) (weights lit16)
      (weights lit17) (ix4 b 0 y x) = up (fun p q => A (ix4 b 0 p q)) y x := by
  obtain ⟨-, s9, s10, -, -, -, -, -, s16, s17⟩ := same_spec y.isLt
  obtain ⟨-, -, -, s11, s12, s13, s14, s15, -, -⟩ := same_spec x.isLt
  have k0 : (words lit9 (ix1 y)).toNat = (ru y).val := words_at (g := lit9t) (h := lit0t) (fun n => by cases n; rfl) y s9
  have k1 : (words lit10 (ix1 y)).toNat = (rd y).val := words_at (g := lit10t) (h := lit1t) (fun n => by cases n; rfl) y s10
  have k2 : (words lit11 (ix1 x)).toNat = (cl x).val := words_at (g := lit11t) (h := lit2t) (fun n => by cases n; rfl) x s11
  have k4 : (words lit13 (ix1 x)).toNat = (cr x).val := words_at (g := lit13t) (h := lit4t) (fun n => by cases n; rfl) x s13
  have e3 : weights lit12 (ix1 x) = wl x := weights_at (g := lit12t) (h := lit3t) (fun n => by cases n; rfl) x s12
  have e5 : weights lit14 (ix1 x) = wr x := weights_at (g := lit14t) (h := lit5t) (fun n => by cases n; rfl) x s14
  have e6 : weights lit15 (ix1 x) = wl x := weights_at (g := lit15t) (h := lit3t) (fun n => by cases n; rfl) x s15
  have e7 : weights lit16 (ix1 y) = hu y := weights_at (g := lit16t) (h := lit7t) (fun n => by cases n; rfl) y s16
  have e8 : weights lit17 (ix1 y) = hd y := weights_at (g := lit17t) (h := lit8t) (fun n => by cases n; rfl) y s17
  have split : ∀ (c c1 c3 c5 : IVec S512 32) (w3 w5 w6 w7 w8 : FVec Ideal S512 .f32), confImage A c c1 c3 c5 w3 w5 w6 w7 w8 (ix4 b 0 y x)
      = (colsC (rowsC A c) c3 (ix4 b 0 y x) * wcolC w3 (ix4 b 0 y x) + colsC (rowsC A c) c5 (ix4 b 0 y x) * wcolC w5 (ix4 b 0 y x))
          * wrowC w7 (ix4 b 0 y x)
        + (colsC (rowsC A c1) c3 (ix4 b 0 y x) * wcolC w6 (ix4 b 0 y x) + colsC (rowsC A c1) c5 (ix4 b 0 y x) * wcolC w5 (ix4 b 0 y x))
          * wrowC w8 (ix4 b 0 y x) := fun _ _ _ _ _ _ _ _ _ => rfl
  rw [split, sourceC A k0 k2, sourceC A k0 k4, sourceC A k1 k2, sourceC A k1 k4]
  simp only [wcolC_apply, wrowC_apply, e3, e5, e6, e7, e8]
  rfl

end Cert.ReferenceIdeal.Gathers

end
-- ==== Proof.RefLoss.lean ====
/- The reference's cross entropy, labels and counts read at a target pixel, and its two sums. -/
module

public import proofs.«01_k».proof.Proof.RefUp
public import Idealize.ShloMosaic.Lib.WordCmp

@[expose] public section

set_option maxRecDepth 16384

noncomputable section

namespace Cert.ReferenceIdeal.Gathers

open Cert.ReferenceIdeal Cert.ReferenceIdeal.Gen Cert.ReferenceIdeal.Value Idealize.ShloMosaic Idealize.ShloMosaic.TcCoe Idealize.ShloMosaic.StableHlo Cert.Tables
open scoped BigOperators

/-! ## The log of the softmax -/

/-- The maximum over the classes. -/
def maxOf (v : FVec Ideal S4x19x512x512 .f32) : FVec Ideal S4x512x512 .f32 :=
  maximumf (broadcastInDim S4x512x512 ![] bcast_S_S4x512x512 (constant S_ .f32 0xFF800000#32))
    (Host.reduce FloatOps.maximumf v (constant S_ .f32 0xFF800000#32) reducesTo_S4x19x512x512_S4x512x512_d1 h_S_)

/-- The logits less their maximum. -/
def shift (v : FVec Ideal S4x19x512x512 .f32) : FVec Ideal S4x19x512x512 .f32 :=
  subf v (broadcastInDim S4x19x512x512 ![0, 1, 2, 3] bcast_S4x1x512x512_S4x19x512x512_0_1_2_3
    (broadcastInDim S4x1x512x512 ![0, 2, 3] bcast_S4x512x512_S4x1x512x512_0_2_3 (maxOf v)))

/-- Less the log of the sum of the exponentials. -/
def logsm (z : FVec Ideal S4x19x512x512 .f32) : FVec Ideal S4x19x512x512 .f32 :=
  subf z (broadcastInDim S4x19x512x512 ![0, 1, 2, 3] bcast_S4x1x512x512_S4x19x512x512_0_1_2_3
    (Host.log (broadcastInDim S4x1x512x512 ![0, 2, 3] bcast_S4x512x512_S4x1x512x512_0_2_3
      (Host.reduceAdd (Host.exp z) (constant S_ .f32 0x00000000#32) reducesTo_S4x19x512x512_S4x512x512_d1 h_S_))))

theorem shift_apply (v : FVec Ideal S4x19x512x512 .f32) (b : Fin 4) (i : Fin 19) (y x : Fin 512) :
    shift v (ix4 b i y x) = v (ix4 b i y x) - maxOf v (ix3 b y x) := by
  have e : ∀ w : FVec Ideal S4x512x512 .f32, broadcastInDim S4x19x512x512 ![0, 1, 2, 3] bcast_S4x1x512x512_S4x19x512x512_0_1_2_3
    (broadcastInDim S4x1x512x512 ![0, 2, 3] bcast_S4x512x512_S4x1x512x512_0_2_3 w) (ix4 b i y x) = w (ix3 b y x) := fun w => by
    pointwise
  exact congrArg (v (ix4 b i y x) - ·) (e (maxOf v))

theorem logsm_apply (z : FVec Ideal S4x19x512x512 .f32) (b : Fin 4) (i : Fin 19) (y x : Fin 512) :
    logsm z (ix4 b i y x) = z (ix4 b i y x) - Ideal.log (∑ j : Fin 19, Ideal.exp (z (ix4 b j y x))) := by
  pointwise [logsm]

theorem fold_real {n : Nat} (v : Fin n → EReal) (h : ∀ i, ∃ a : ℝ, v i = a) (s : Finset (Fin n)) (hs : s.Nonempty) :
    ∃ a : ℝ, s.fold (FloatOps.maximumf (F := Ideal) (φ := .f32)) (⊥ : EReal) v = a := by
  classical
  induction hs using Finset.Nonempty.cons_induction with
  | singleton i =>
    obtain ⟨a, ha⟩ := h i
    refine ⟨a, ?_⟩
    rw [Finset.fold_singleton, ha]
    exact max_bot_right _
  | cons i s hi hs ih =>
    obtain ⟨a, ha⟩ := h i
    obtain ⟨c, hc⟩ := ih
    refine ⟨max a c, ?_⟩
    rw [Finset.fold_cons, ha, hc]
    exact (EReal.coe_strictMono.monotone.map_max (a := a) (b := c)).symm

theorem ofBits_bot : Ideal.ofBits .f32 0xFF800000#32 = (⊥ : EReal) := by
  simp [Ideal.ofBits, Ideal.ieee]

theorem reduce_classes {α : Type} (f : α → α → α) [Std.Commutative f] [Std.Associative f] (v : S4x19x512x512.Idx → α) (init : S_.Idx → α)
    (b : Fin 4) (y x : Fin 512) :
    Host.reduce f v init reducesTo_S4x19x512x512_S4x512x512_d1 h_S_ (ix3 b y x)
      = Finset.univ.fold f (init (Shape.Idx.first h_S_)) (fun i : Fin 19 => v (ix4 b i y x)) :=
  (Host.reduce_eq_fold f v init reducesTo_S4x19x512x512_S4x512x512_d1 h_S_ (ix3 b y x)).trans
    (Shape.ReducesTo.fold_fiber_r4_a1 reducesTo_S4x19x512x512_S4x512x512_d1 (ix3 b y x) f _ v)

theorem max_apply (v : FVec Ideal S4x19x512x512 .f32) (b : Fin 4) (y x : Fin 512) :
    Host.reduce FloatOps.maximumf v (constant S_ .f32 0xFF800000#32) reducesTo_S4x19x512x512_S4x512x512_d1 h_S_ (ix3 b y x)
      = Finset.univ.fold (FloatOps.maximumf (F := Ideal) (φ := .f32)) (Ideal.ofBits .f32 0xFF800000#32) (fun i : Fin 19 => v (ix4 b i y x)) :=
  reduce_classes (FloatOps.maximumf (F := Ideal) (φ := .f32)) v (constant S_ .f32 0xFF800000#32) b y x

theorem maximumf_at {s : Shape} (a c : FVec Ideal s .f32) (i : s.Idx) :
    maximumf a c i = FloatOps.maximumf (F := Ideal) (φ := .f32) (a i) (c i) := rfl

theorem low_at (i : S4x512x512.Idx) :
    broadcastInDim S4x512x512 ![] bcast_S_S4x512x512 (constant (F := Ideal) S_ .f32 0xFF800000#32) i = Ideal.ofBits .f32 0xFF800000#32 := rfl

theorem max_bot (x : EReal) : FloatOps.maximumf (F := Ideal) (φ := .f32) (⊥ : EReal) x = x := max_bot_left x

/-- The maximum of real logits is real. -/
theorem maxOf_real (v : FVec Ideal S4x19x512x512 .f32) (b : Fin 4) (y x : Fin 512) (h : ∀ i, ∃ a : ℝ, v (ix4 b i y x) = a) :
    ∃ a : ℝ, maxOf v (ix3 b y x) = a := by
  obtain ⟨a, ha⟩ := fold_real (fun i : Fin 19 => v (ix4 b i y x)) h Finset.univ Finset.univ_nonempty
  refine ⟨a, ?_⟩
  unfold maxOf
  rw [maximumf_at, low_at, max_apply, ofBits_bot, max_bot]
  exact ha

/-! ## The labels -/

/-- The label with the boundary's pixels at -1. -/
def marked (B : IVec S4x512x512 1) (L : IVec S4x512x512 32) : IVec S4x512x512 32 :=
  select B (broadcastInDim S4x512x512 ![] bcast_S_S4x512x512 (id (constantI S_ 32 4294967295#32))) L
def inside (B : IVec S4x512x512 1) (L : IVec S4x512x512 32) : IVec S4x512x512 1 :=
  cmpi .ne (marked B L) (broadcastInDim S4x512x512 ![] bcast_S_S4x512x512 (constantI S_ 32 4294967295#32))
def safe (B : IVec S4x512x512 1) (L : IVec S4x512x512 32) : IVec S4x1x512x512 32 :=
  broadcastInDim S4x1x512x512 ![0, 2, 3] bcast_S4x512x512_S4x1x512x512_0_2_3
    (select (inside B L) (marked B L) (broadcastInDim S4x512x512 ![] bcast_S_S4x512x512 (id (constantI S_ 32 0#32))))
def wrapped (S : IVec S4x1x512x512 32) : IVec S4x1x512x512x1 32 :=
  shapeCast S4x1x512x512x1 (select (cmpi .slt S (broadcastInDim S4x1x512x512 ![] bcast_S_S4x1x512x512 (constantI S_ 32 0#32)))
    (addi S (broadcastInDim S4x1x512x512 ![] bcast_S_S4x1x512x512 (constantI S_ 32 19#32))) S) shapeCasts_S4x1x512x512_S4x1x512x512x1

theorem toInt_small (l : BitVec 32) (h : l.toNat < 19) : l.toInt = (l.toNat : ℤ) :=
  BitVec.toInt_eq_toNat_of_lt (by omega)

theorem bit_cases (p : BitVec 1) : p = 0#1 ∨ p = 1#1 := by
  revert p; decide

theorem word_inside (p : BitVec 1) (l : BitVec 32) (h : l.toNat < 19) :
    IntOp.cmpi .ne (Scalar.select p 4294967295#32 l) 4294967295#32 = if p = 0#1 then 1#1 else 0#1 := by
  rcases bit_cases p with rfl | rfl
  · have hl : l ≠ 4294967295#32 := fun e => by rw [e] at h; exact absurd h (by decide)
    show IntOp.cmpi .ne l 4294967295#32 = 1#1
    rw [WordCmp.cmpi_ne_eq, decide_eq_true hl]
    rfl
  · rfl

theorem word_safe (p : BitVec 1) (l : BitVec 32) :
    Scalar.select (if p = 0#1 then 1#1 else 0#1) (Scalar.select p 4294967295#32 l) 0#32 = if p = 0#1 then l else 0#32 := by
  rcases bit_cases p with rfl | rfl <;> rfl

theorem word_wrapped (l : BitVec 32) (h : l.toNat < 19) :
    Scalar.select (IntOp.cmpi .slt l 0#32) (IntOp.addi l 19#32) l = l := by
  have e : IntOp.cmpi .slt l 0#32 = 0#1 := by
    rw [WordCmp.cmpi_slt_eq, toInt_small l h, decide_eq_false (show ¬ ((l.toNat : ℤ) < (0#32).toInt) by rw [show (0#32).toInt = 0 from rfl]; omega)]
    rfl
  rw [e]
  rfl

theorem word_range {α : Type} (l : BitVec 32) (h : l.toNat < 19) (a c : α) :
    Scalar.select (IntOp.andi (IntOp.andi (IntOp.cmpi .sge l 0#32) (IntOp.cmpi .sle l 18#32)) 1#1) a c = a := by
  have e0 : IntOp.cmpi .sge l 0#32 = 1#1 := by
    rw [WordCmp.cmpi_sge_eq, toInt_small l h, decide_eq_true (show (0#32).toInt ≤ (l.toNat : ℤ) by rw [show (0#32).toInt = 0 from rfl]; omega)]
    rfl
  have e1 : IntOp.cmpi .sle l 18#32 = 1#1 := by
    rw [WordCmp.cmpi_sle_eq, toInt_small l h, decide_eq_true (show (l.toNat : ℤ) ≤ (18#32).toInt by rw [show (18#32).toInt = 18 from rfl]; omega)]
    rfl
  rw [e0, e1]
  rfl

theorem marked_apply (B : IVec S4x512x512 1) (L : IVec S4x512x512 32) (b : Fin 4) (y x : Fin 512) :
    marked B L (ix3 b y x) = Scalar.select (B (ix3 b y x)) 4294967295#32 (L (ix3 b y x)) := by
  pointwise [marked]
  rfl

theorem inside_apply (B : IVec S4x512x512 1) (L : IVec S4x512x512 32) (b : Fin 4) (y x : Fin 512) (h : (L (ix3 b y x)).toNat < 19) :
    inside B L (ix3 b y x) = if B (ix3 b y x) = 0#1 then 1#1 else 0#1 := by
  pointwise [inside, marked]
  exact word_inside _ _ h

theorem safe_apply (B : IVec S4x512x512 1) (L : IVec S4x512x512 32) (b : Fin 4) (y x : Fin 512) (h : (L (ix3 b y x)).toNat < 19) :
    safe B L (ix4 b 0 y x) = if B (ix3 b y x) = 0#1 then L (ix3 b y x) else 0#32 := by
  pointwise [safe]
  rw [inside_apply B L b y x h, marked_apply]
  exact word_safe _ _

theorem wrapped_apply (S : IVec S4x1x512x512 32) (b : Fin 4) (y x : Fin 512) (h : (S (ix4 b 0 y x)).toNat < 19) :
    wrapped S (ix5 b 0 y x 0) = S (ix4 b 0 y x) := by
  pointwise [wrapped]
  exact word_wrapped _ h

/-- The entry at the label, where the label is in range. -/
def take (p : FVec Ideal S4x19x512x512 .f32) (w : IVec S4x1x512x512x1 32) : FVec Ideal S4x1x512x512 .f32 :=
  select (Host.reduce IntOp.andi (andi (cmpi .sge w (broadcastInDim S4x1x512x512x1 ![] bcast_S_S4x1x512x512x1 (constantI S_ 32 0#32)))
      (cmpi .sle w (broadcastInDim S4x1x512x512x1 ![0, 1, 2, 3, 4] bcast_S1x1x1x1x1_S4x1x512x512x1_0_1_2_3_4
        (broadcastInDim S1x1x1x1x1 ![4] bcast_S1_S1x1x1x1x1_4 (constantI S1 32 18#32)))))
      (constantI S_ 1 1#1) reducesTo_S4x1x512x512x1_S4x1x512x512_d4 h_S_)
    (Host.gather gather_S4x19x512x512_S4x1x512x512x1_S4x1x512x512_n_1_023_023_1_4_1111 p w)
    (broadcastInDim S4x1x512x512 ![] bcast_S_S4x1x512x512 (constant S_ .f32 0x7FC00000#32))

theorem take_apply (p : FVec Ideal S4x19x512x512 .f32) (w : IVec S4x1x512x512x1 32) (b : Fin 4) (y x : Fin 512)
    (h : (w (ix5 b 0 y x 0)).toNat < 19) :
    take p w (ix4 b 0 y x) = p (ix4 b (Fin.ofNat 19 (w (ix5 b 0 y x 0)).toNat) y x) := by
  pointwise [take]
  rw [Finset.univ_unique, Finset.fold_singleton]
  have e0 : (default : Fin 1) = 0 := rfl
  rw [e0, word_range _ h, label]
  refine congrArg (fun k => p (ix4 b k y x)) (Fin.ext ?_)
  show min (w (ix5 b 0 y x 0)).toInt.toNat 18 = (w (ix5 b 0 y x 0)).toNat % 19
  rw [toInt_small _ h, Int.toNat_natCast]
  omega

end Cert.ReferenceIdeal.Gathers

end
-- ==== Proof.RefValue.lean ====
/- The reference's result, as sums over the batch and the target's rows and columns. -/
module

public import proofs.«01_k».proof.Proof.RefLoss
public import proofs.«01_k».proof.Proof.Sums

@[expose] public section

set_option maxRecDepth 16384

noncomputable section

namespace Cert.ReferenceIdeal.Gathers

open Cert.ReferenceIdeal Cert.ReferenceIdeal.Gen Cert.ReferenceIdeal.Value Idealize.ShloMosaic Idealize.ShloMosaic.TcCoe Idealize.ShloMosaic.StableHlo Cert.Tables
open scoped BigOperators

/-! ## The result's term, over the arguments -/

/-- The resized logits. -/
def logits (A : FVec Ideal S4x19x128x128 .f32) : FVec Ideal S4x19x512x512 .f32 :=
  segImage A (words lit0) (words lit1) (words lit2) (words lit4) (weights lit3) (weights lit5) (weights lit6) (weights lit7) (weights lit8)

/-- The resized confidence. -/
def confs (C : FVec Ideal S4x128x128 .f32) : FVec Ideal S4x1x512x512 .f32 :=
  confImage (broadcastInDim S4x1x128x128 ![0, 2, 3] bcast_S4x128x128_S4x1x128x128_0_2_3 C) (words lit9) (words lit10) (words lit11)
    (words lit13) (weights lit12) (weights lit14) (weights lit15) (weights lit16) (weights lit17)

/-- The pixels' weighted losses. -/
def weighed (t c : FVec Ideal S4x1x512x512 .f32) (u : FVec Ideal S4x512x512 .f32) : FVec Ideal S4x512x512 .f32 :=
  mulf (mulf (Host.negf (shapeCast S4x512x512 t shapeCasts_S4x1x512x512_S4x512x512)) (shapeCast S4x512x512 c shapeCasts_S4x1x512x512_S4x512x512)) u

/-- The sum over every pixel. -/
def all (v : FVec Ideal S4x512x512 .f32) : FVec Ideal S_ .f32 :=
  Host.reduceAdd v (constant S_ .f32 0x00000000#32) reducesTo_S4x512x512_S_d0_1_2 h_S_

theorem all_apply (v : FVec Ideal S4x512x512 .f32) (j : S_.Idx) : all v j = ∑ b : Fin 4, ∑ y : Fin 512, ∑ x : Fin 512, v (ix3 b y x) := by
  pointwise [all]

theorem weighed_apply (t c : FVec Ideal S4x1x512x512 .f32) (u : FVec Ideal S4x512x512 .f32) (b : Fin 4) (y x : Fin 512) :
    weighed t c u (ix3 b y x) = -(t (ix4 b 0 y x)) * c (ix4 b 0 y x) * u (ix3 b y x) := by
  pointwise [weighed]

theorem confs_apply (C : FVec Ideal S4x128x128 .f32) (b : Fin 4) (y x : Fin 512) : confs C (ix4 b 0 y x) = Image.confUp C b y x := by
  unfold confs
  rw [confImage_apply]
  refine congrArg (fun f => up f y x) ?_
  funext p q
  pointwise

theorem logits_apply (A : FVec Ideal S4x19x128x128 .f32) (b : Fin 4) (i : Fin 19) (y x : Fin 512) :
    logits A (ix4 b i y x) = Image.segUp A b i y x := segImage_apply A b i y x

theorem count_apply (B : IVec S4x512x512 1) (L : IVec S4x512x512 32) (b : Fin 4) (y x : Fin 512) (h : (L (ix3 b y x)).toNat < 19) :
    uitofp (F := Ideal) .f32 (inside B L) (ix3 b y x) = Image.valid B b y x := by
  have e : ∀ w : IVec S4x512x512 1, uitofp (F := Ideal) .f32 w (ix3 b y x) = (((w (ix3 b y x)).toNat : ℝ) : EReal) := fun _ => rfl
  rw [e, inside_apply B L b y x h, Image.valid]
  split <;> simp

/-- The resized logits of real logits are real. -/
theorem logits_real (A : FVec Ideal S4x19x128x128 .f32) (h : ∀ i, ∃ v : ℝ, A i = v) (b : Fin 4) (i : Fin 19) (y x : Fin 512) :
    ∃ v : ℝ, logits A (ix4 b i y x) = v := by
  choose g hg using h
  obtain ⟨wl', wr', hu', hd', ewl, ewr, ehu, ehd⟩ := weights_real
  rw [logits_apply, Image.segUp]
  have e : (fun p q => A (ix4 b i p q)) = fun p q => ((g (ix4 b i p q) : ℝ) : EReal) := by funext p q; exact hg _
  rw [e, up, ewl, ewr, ehu, ehd, Core.mix_coe]
  exact ⟨_, rfl⟩

theorem call1_eq (V0 : Valuation τ sig (Elt Ideal)) : res_main_call1_v5 V0 = shift (res_main_v52 V0) := rfl
theorem v107_eq (V0 : Valuation τ sig (Elt Ideal)) :
    res_main_v107 V0 = inside (V0 (Proc.devRef .tc main_arg6)) (V0 (Proc.devRef .tc main_arg7)) := rfl
theorem v109_eq (V0 : Valuation τ sig (Elt Ideal)) :
    res_main_v109 V0 = safe (V0 (Proc.devRef .tc main_arg6)) (V0 (Proc.devRef .tc main_arg7)) := rfl
theorem call3_eq (V0 : Valuation τ sig (Elt Ideal)) : res_main_call3_v5 V0 = wrapped (res_main_v109 V0) := rfl

/-- The result, over the arguments it reads. -/
def result (A : FVec Ideal S4x19x128x128 .f32) (C : FVec Ideal S4x128x128 .f32) (B : IVec S4x512x512 1) (L : IVec S4x512x512 32) :
    FVec Ideal S_ .f32 :=
  Host.divf (all (weighed (take (logsm (shift (logits A))) (wrapped (safe B L))) (confs C) (uitofp .f32 (inside B L))))
    (maximumf (all (uitofp .f32 (inside B L))) (constant S_ .f32 0x3F800000#32))

/-- The confidence's resized plane, as it is printed. -/
theorem confs_eq (V0 : Valuation τ sig (Elt Ideal)) :
    (addf (mulf (addf (mulf (Host.gather gather_S4x1x512x128_S512x1_S4x1x512x512_012_3_n_n_3_1_415121 (res_main_v59 V0) (broadcastInDim S512x1 ![0] bcast_S512_S512x1_0 (select (constantI S512 1 0#1) (addi (res_main_c_17 V0) (broadcastInDim S512 ![] bcast_S_S512 (constantI S_ 32 128#32))) (res_main_c_17 V0)))) (broadcastInDim S4x1x512x512 ![0, 1, 2, 3] bcast_S1x1x1x512_S4x1x512x512_0_1_2_3 (broadcastInDim S1x1x1x512 ![3] bcast_S512_S1x1x1x512_3 ((fun i => FloatOps.ofBits .f32 (lit12 (S512.rowMajor i))))))) (mulf (Host.gather gather_S4x1x512x128_S512x1_S4x1x512x512_012_3_n_n_3_1_415121 (res_main_v59 V0) (broadcastInDim S512x1 ![0] bcast_S512_S512x1_0 (select (constantI S512 1 0#1) (addi (res_main_c_20 V0) (broadcastInDim S512 ![] bcast_S_S512 (constantI S_ 32 128#32))) (res_main_c_20 V0)))) (broadcastInDim S4x1x512x512 ![0, 1, 2, 3] bcast_S1x1x1x512_S4x1x512x512_0_1_2_3 (broadcastInDim S1x1x1x512 ![3] bcast_S512_S1x1x1x512_3 (res_main_cst_22 V0))))) (broadcastInDim S4x1x512x512 ![0, 1, 2, 3] bcast_S1x1x512x1_S4x1x512x512_0_1_2_3 (broadcastInDim S1x1x512x1 ![2] bcast_S512_S1x1x512x1_2 ((fun i => FloatOps.ofBits .f32 (lit16 (S512.rowMajor i))))))) (mulf (addf (mulf (Host.gather gather_S4x1x512x128_S512x1_S4x1x512x512_012_3_n_n_3_1_415121 (res_main_v64 V0) (broadcastInDim S512x1 ![0] bcast_S512_S512x1_0 (select (constantI S512 1 0#1) (addi (res_main_c_17 V0) (broadcastInDim S512 ![] bcast_S_S512 (constantI S_ 32 128#32))) (res_main_c_17 V0)))) (broadcastInDim S4x1x512x512 ![0, 1, 2, 3] bcast_S1x1x1x512_S4x1x512x512_0_1_2_3 (broadcastInDim S1x1x1x512 ![3] bcast_S512_S1x1x1x512_3 ((fun i => FloatOps.ofBits .f32 (lit15 (S512.rowMajor i))))))) (mulf (Host.gather gather_S4x1x512x128_S512x1_S4x1x512x512_012_3_n_n_3_1_415121 (res_main_v64 V0) (broadcastInDim S512x1 ![0] bcast_S512_S512x1_0 (select (constantI S512 1 0#1) (addi (res_main_c_20 V0) (broadcastInDim S512 ![] bcast_S_S512 (constantI S_ 32 128#32))) (res_main_c_20 V0)))) (broadcastInDim S4x1x512x512 ![0, 1, 2, 3] bcast_S1x1x1x512_S4x1x512x512_0_1_2_3 (broadcastInDim S1x1x1x512 ![3] bcast_S512_S1x1x1x512_3 (res_main_cst_22 V0))))) (broadcastInDim S4x1x512x512 ![0, 1, 2, 3] bcast_S1x1x512x1_S4x1x512x512_0_1_2_3 (broadcastInDim S1x1x512x1 ![2] bcast_S512_S1x1x512x1_2 ((fun i => FloatOps.ofBits .f32 (lit17 (S512.rowMajor i)))))))) = confs (V0 (Proc.devRef .tc main_arg4)) := by
  with_unfolding_all rfl

theorem result_eq (m : (ℓ : Loc nD τ sig) → Buf (Elt Ideal) ℓ) (c : Dev nD) :
    Host.divf (Host.reduceAdd (mulf (mulf (Host.negf (shapeCast _ (select (Host.reduce IntOp.andi (andi (cmpi .sge (res_main_call3_v5 (launchContents m c)) (broadcastInDim S4x1x512x512x1 ![] bcast_S_S4x1x512x512x1 (constantI S_ 32 0#32))) (cmpi .sle (res_main_call3_v5 (launchContents m c)) (broadcastInDim S4x1x512x512x1 ![0, 1, 2, 3, 4] bcast_S1x1x1x1x1_S4x1x512x512x1_0_1_2_3_4 (broadcastInDim S1x1x1x1x1 ![4] bcast_S1_S1x1x1x1x1_4 (constantI S1 32 18#32))))) (constantI S_ 1 1#1) reducesTo_S4x1x512x512x1_S4x1x512x512_d4 h_S_) (Host.gather gather_S4x19x512x512_S4x1x512x512x1_S4x1x512x512_n_1_023_023_1_4_1111 (subf (res_main_call1_v5 (launchContents m c)) (broadcastInDim S4x19x512x512 ![0, 1, 2, 3] bcast_S4x1x512x512_S4x19x512x512_0_1_2_3 (Host.log (broadcastInDim S4x1x512x512 ![0, 2, 3] bcast_S4x512x512_S4x1x512x512_0_2_3 (Host.reduceAdd (Host.exp (res_main_call1_v5 (launchContents m c))) (constant S_ .f32 0x00000000#32) reducesTo_S4x19x512x512_S4x512x512_d1 h_S_))))) (res_main_call3_v5 (launchContents m c))) (broadcastInDim S4x1x512x512 ![] bcast_S_S4x1x512x512 (constant S_ .f32 0x7FC00000#32))) shapeCasts_S4x1x512x512_S4x512x512)) (shapeCast _ (addf (mulf (addf (mulf (Host.gather gather_S4x1x512x128_S512x1_S4x1x512x512_012_3_n_n_3_1_415121 (res_main_v59 (launchContents m c)) (broadcastInDim S512x1 ![0] bcast_S512_S512x1_0 (select (constantI S512 1 0#1) (addi (res_main_c_17 (launchContents m c)) (broadcastInDim S512 ![] bcast_S_S512 (constantI S_ 32 128#32))) (res_main_c_17 (launchContents m c))))) (broadcastInDim S4x1x512x512 ![0, 1, 2, 3] bcast_S1x1x1x512_S4x1x512x512_0_1_2_3 (broadcastInDim S1x1x1x512 ![3] bcast_S512_S1x1x1x512_3 ((fun i => FloatOps.ofBits .f32 (lit12 (S512.rowMajor i))))))) (mulf (Host.gather gather_S4x1x512x128_S512x1_S4x1x512x512_012_3_n_n_3_1_415121 (res_main_v59 (launchContents m c)) (broadcastInDim S512x1 ![0] bcast_S512_S512x1_0 (select (constantI S512 1 0#1) (addi (res_main_c_20 (launchContents m c)) (broadcastInDim S512 ![] bcast_S_S512 (constantI S_ 32 128#32))) (res_main_c_20 (launchContents m c))))) (broadcastInDim S4x1x512x512 ![0, 1, 2, 3] bcast_S1x1x1x512_S4x1x512x512_0_1_2_3 (broadcastInDim S1x1x1x512 ![3] bcast_S512_S1x1x1x512_3 (res_main_cst_22 (launchContents m c)))))) (broadcastInDim S4x1x512x512 ![0, 1, 2, 3] bcast_S1x1x512x1_S4x1x512x512_0_1_2_3 (broadcastInDim S1x1x512x1 ![2] bcast_S512_S1x1x512x1_2 ((fun i => FloatOps.ofBits .f32 (lit16 (S512.rowMajor i))))))) (mulf (addf (mulf (Host.gather gather_S4x1x512x128_S512x1_S4x1x512x512_012_3_n_n_3_1_415121 (res_main_v64 (launchContents m c)) (broadcastInDim S512x1 ![0] bcast_S512_S512x1_0 (select (constantI S512 1 0#1) (addi (res_main_c_17 (launchContents m c)) (broadcastInDim S512 ![] bcast_S_S512 (constantI S_ 32 128#32))) (res_main_c_17 (launchContents m c))))) (broadcastInDim S4x1x512x512 ![0, 1, 2, 3] bcast_S1x1x1x512_S4x1x512x512_0_1_2_3 (broadcastInDim S1x1x1x512 ![3] bcast_S512_S1x1x1x512_3 ((fun i => FloatOps.ofBits .f32 (lit15 (S512.rowMajor i))))))) (mulf (Host.gather gather_S4x1x512x128_S512x1_S4x1x512x512_012_3_n_n_3_1_415121 (res_main_v64 (launchContents m c)) (broadcastInDim S512x1 ![0] bcast_S512_S512x1_0 (select (constantI S512 1 0#1) (addi (res_main_c_20 (launchContents m c)) (broadcastInDim S512 ![] bcast_S_S512 (constantI S_ 32 128#32))) (res_main_c_20 (launchContents m c))))) (broadcastInDim S4x1x512x512 ![0, 1, 2, 3] bcast_S1x1x1x512_S4x1x512x512_0_1_2_3 (broadcastInDim S1x1x1x512 ![3] bcast_S512_S1x1x1x512_3 (res_main_cst_22 (launchContents m c)))))) (broadcastInDim S4x1x512x512 ![0, 1, 2, 3] bcast_S1x1x512x1_S4x1x512x512_0_1_2_3 (broadcastInDim S1x1x512x1 ![2] bcast_S512_S1x1x512x1_2 ((fun i => FloatOps.ofBits .f32 (lit17 (S512.rowMajor i)))))))) shapeCasts_S4x1x512x512_S4x512x512)) (res_main_v113 (launchContents m c))) (constant S_ .f32 0x00000000#32) reducesTo_S4x512x512_S_d0_1_2 h_S_) (maximumf (Host.reduceAdd (res_main_v113 (launchContents m c)) (constant S_ .f32 0x00000000#32) reducesTo_S4x512x512_S_d0_1_2 h_S_) (constant S_ .f32 0x3F800000#32))
      = result (m ((c.tc : Thread nD τ).loc main_arg1)) (m ((c.tc : Thread nD τ).loc main_arg4)) (m ((c.tc : Thread nD τ).loc main_arg6))
          (m ((c.tc : Thread nD τ).loc main_arg7)) := by
  rw [confs_eq, call3_eq, v109_eq, call1_eq, v52_eq, res_main_v113, v107_eq]
  rfl

/-! ## Its two sums -/

/-- A pixel's weighted loss, where `M` is its maximum. -/
theorem pixel (A : FVec Ideal S4x19x128x128 .f32) (C : FVec Ideal S4x128x128 .f32) (B : IVec S4x512x512 1) (L : IVec S4x512x512 32)
    (b : Fin 4) (y x : Fin 512) (h : (L (ix3 b y x)).toNat < 19) :
    weighed (take (logsm (shift (logits A))) (wrapped (safe B L))) (confs C) (uitofp .f32 (inside B L)) (ix3 b y x)
      = Image.nll A b y x (Image.label L b y x) (maxOf (logits A) (ix3 b y x)) * Image.confUp C b y x * Image.valid B b y x := by
  rw [weighed_apply, count_apply B L b y x h, confs_apply]
  rcases bit_cases (B (ix3 b y x)) with hB | hB
  · have hs : safe B L (ix4 b 0 y x) = L (ix3 b y x) := by rw [safe_apply B L b y x h, if_pos hB]
    have hw : wrapped (safe B L) (ix5 b 0 y x 0) = L (ix3 b y x) := (wrapped_apply _ b y x (by rw [hs]; exact h)).trans hs
    rw [take_apply _ _ b y x (by rw [hw]; exact h), hw, logsm_apply]
    simp only [shift_apply, logits_apply]
    rfl
  · have hv : Image.valid B b y x = 0 := by
      rw [Image.valid, if_neg]
      rw [hB]
      decide
    rw [hv, mul_zero, mul_zero]

theorem top_sum (A : FVec Ideal S4x19x128x128 .f32) (C : FVec Ideal S4x128x128 .f32) (B : IVec S4x512x512 1) (L : IVec S4x512x512 32)
    (hL : ∀ i, (L i).toNat < 19) :
    all (weighed (take (logsm (shift (logits A))) (wrapped (safe B L))) (confs C) (uitofp .f32 (inside B L)))
      = fun _ => ∑ b : Fin 4, ∑ y : Fin 512, ∑ x : Fin 512,
          Image.nll A b y x (Image.label L b y x) (maxOf (logits A) (ix3 b y x)) * Image.confUp C b y x * Image.valid B b y x := by
  funext j
  rw [all_apply]
  exact Finset.sum_congr rfl fun b _ => Finset.sum_congr rfl fun y _ => Finset.sum_congr rfl fun x _ => pixel A C B L b y x (hL _)

theorem bottom_sum (B : IVec S4x512x512 1) (L : IVec S4x512x512 32) (hL : ∀ i, (L i).toNat < 19) :
    all (uitofp .f32 (inside B L)) = fun _ => ∑ b : Fin 4, ∑ y : Fin 512, ∑ x : Fin 512, Image.valid B b y x := by
  funext j
  rw [all_apply]
  exact Finset.sum_congr rfl fun b _ => Finset.sum_congr rfl fun y _ => Finset.sum_congr rfl fun x _ => count_apply B L b y x (hL _)

/-- The maximum of a pixel's logits is real where the logits given are. -/
theorem top_logit (A : FVec Ideal S4x19x128x128 .f32) (h : ∀ i, ∃ v : ℝ, A i = v) :
    ∃ M : Fin 4 → Fin 512 → Fin 512 → ℝ, ∀ b y x, maxOf (logits A) (ix3 b y x) = M b y x := by
  choose M hM using fun b y x => maxOf_real (logits A) b y x fun i => logits_real A h b i y x
  exact ⟨M, hM⟩

end Cert.ReferenceIdeal.Gathers

end
-- ==== Proof.Drawn.lean ====
/- What the precondition says of the logits and the labels. -/
module

public import proofs.«01_k».proof.Defs
public import proofs.«01_k».proof.Proof.Gen.Pre_drawn
public import Idealize.ShloMosaic.Lib.ReduceAll
public import Idealize.ShloMosaic.Lib.WordCmp
public import Idealize.ShloMosaic.Lib.Pointwise

@[expose] public section

set_option maxRecDepth 16384

noncomputable section

namespace Cert.Drawn

open Cert.Pre_drawn Cert.Pre_drawn.Facts Idealize.ShloMosaic

instance : Subsingleton S_.Idx := ⟨fun a b => by funext k; exact k.elim0⟩

theorem both {a c : BitVec 1} (h : IntOp.andi a c = 1#1) : a = 1#1 ∧ c = 1#1 := by
  revert h; revert a c; decide

theorem inf_word : Ideal.ofBits .f32 0x7F800000#32 = (⊤ : EReal) := by
  simp [Ideal.ofBits, Ideal.ieee]

theorem real_of_cmp {x : EReal} (h : Ideal.cmp .olt (max x (-x)) (Ideal.ofBits .f32 0x7F800000#32) = 1#1) : ∃ v : ℝ, x = v := by
  rw [inf_word] at h
  have e : max x (-x) < ⊤ := (WordCmp.ofBool_decide_eq_one_iff _).1 h
  induction x with
  | bot => exact absurd e (by simp)
  | top => exact absurd e (by simp)
  | coe v => exact ⟨v, rfl⟩

theorem range_of_word {l : BitVec 32} (h : IntOp.andi (IntOp.cmpi .sge l 0#32) (IntOp.cmpi .slt l 19#32) = 1#1) : l.toNat < 19 := by
  obtain ⟨h0, h1⟩ := both h
  rw [WordCmp.cmpi_sge_eq, WordCmp.ofBool_decide_eq_one_iff] at h0
  rw [WordCmp.cmpi_slt_eq, WordCmp.ofBool_decide_eq_one_iff] at h1
  rw [show (0#32).toInt = 0 from rfl] at h0
  rw [show (19#32).toInt = 19 from rfl] at h1
  have := BitVec.toInt_eq_toNat_cond l
  have := l.isLt
  split at * <;> omega

variable [Pre_drawn.Facts]

theorem parts (A0 : FVec Ideal S4x2x128x128 .f32) (A1 : FVec Ideal S4x19x128x128 .f32) (A2 : FVec Ideal S65536x190 .f32) (A3 : IVec S65536 32)
    (A4 : FVec Ideal S4x128x128 .f32) (A5 : IVec S4x512x512 32) (A6 : IVec S4x512x512 1) (A7 : IVec S4x512x512 32)
    (h : Pre_drawn.fn A0 A1 A2 A3 A4 A5 A6 A7 = fun _ => 1#1) :
    (∀ i, ∃ v : ℝ, A1 i = v) ∧ ∀ i, (A7 i).toNat < 19 := by
  obtain ⟨h1, h7⟩ := both (congrFun h (fun k => k.elim0))
  exact ⟨fun i => real_of_cmp (Host.reduce_andi_all _ _ _ _ _ h1 i), fun i => range_of_word (Host.reduce_andi_all _ _ _ _ _ h7 i)⟩

end Cert.Drawn

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Pre_drawn
public import proofs.«01_k».proof.Proof.Run
public import proofs.«01_k».proof.Proof.Sums
public import proofs.«01_k».proof.Proof.RefValue
public import proofs.«01_k».proof.Proof.Drawn
public import Idealize.ShloMosaic.Lib.Quiescent
public import Idealize.ShloMosaic.Adequacy
public import Idealize.ShloMosaic.Init

@[expose] public section

noncomputable section

namespace Cert.Proof

open Idealize.ShloMosaic Idealize.SL.Sem

theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The two named constants have the values their names stand for. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "ln2sq" .f32 0x3EF5FDF0#32 (((Real.log 2) * (Real.log 2) : ℝ) : EReal) rfl⟩

open Cert.ReferenceIdeal.Gathers in
/-- The kernel's result is the reference's, where the logits are real and the labels name classes. -/
theorem algebraic : Cert.algebraic_KernelIdeal_ReferenceIdeal_pre_drawn := by
  intro m ρ m' ρ' hpre hagree
  refine ⟨fun c => KernelIdeal.Body.res m c, KernelIdeal.Body.run_value m ρ, ?_⟩
  refine (θ_run Cert.ReferenceIdeal.defs _ _).mono (fun _ h c => ⟨(h c).1.trans ?_, (h c).2⟩) (Cert.ReferenceIdeal.Value.run (F := Ideal) m' ρ')
  obtain ⟨hA, hL⟩ := Cert.Drawn.parts _ _ _ _ _ _ _ _ (hpre c)
  obtain ⟨M, hM⟩ := top_logit _ hA
  obtain ⟨-, e1, -, -, e4, -, e6, e7⟩ := hagree c
  refine (result_eq m' c).trans ?_
  have k : KernelIdeal.Body.res m c = Host.divf (fun _ => KernelIdeal.Body.numAll m c)
      (maximumf (fun _ => KernelIdeal.Body.denAll m c) (constant ReferenceIdeal.S_ .f32 0x3F800000#32)) := rfl
  refine Eq.trans ?_ k.symm
  rw [e1, e4, e6, e7, result, top_sum _ _ _ _ hL, bottom_sum _ _ hL, KernelIdeal.Body.numAll_eq m c M hA hL, KernelIdeal.Body.denAll_eq]
  simp only [hM]

theorem claim : Cert.Claim :=
  ⟨Cert.Kernel.Gen.facts, Cert.KernelIdeal.Gen.facts, Cert.ReferenceIdeal.Gen.facts, Cert.Pre_drawn.Gen.facts,
    fun m ρ _ => Cert.Kernel.Gen.frame m ρ, fun m ρ _ => Cert.KernelIdeal.Gen.frame m ρ,
    fun m ρ _ => Cert.KernelIdeal.Gen.frame m ρ, frame_ri, fun m ρ _ => frame_ri m ρ trivial, preserves, algebraic⟩

end Cert.Proof

end
